-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E8293EE#32 (((Real.sqrt 32)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8x10x5x64x128 : Shape := ⟨6, ![4, 8, 10, 5, 64, 128]⟩
abbrev S4x8x10x8x32x128 : Shape := ⟨6, ![4, 8, 10, 8, 32, 128]⟩
abbrev S4x8x10x10x32x128 : Shape := ⟨6, ![4, 8, 10, 10, 32, 128]⟩
abbrev S8x8x7x8x128 : Shape := ⟨5, ![8, 8, 7, 8, 128]⟩
abbrev S4x8x10x8x128 : Shape := ⟨5, ![4, 8, 10, 8, 128]⟩
abbrev S105x128 : Shape := ⟨2, ![105, 128]⟩
abbrev S1x4x10x5x64x128 : Shape := ⟨6, ![1, 4, 10, 5, 64, 128]⟩
abbrev S1x4x10x8x32x128 : Shape := ⟨6, ![1, 4, 10, 8, 32, 128]⟩
abbrev S1x4x10x10x32x128 : Shape := ⟨6, ![1, 4, 10, 10, 32, 128]⟩
abbrev S4x8x7x8x128 : Shape := ⟨5, ![4, 8, 7, 8, 128]⟩
abbrev S1x4x10x8x128 : Shape := ⟨5, ![1, 4, 10, 8, 128]⟩
abbrev S16x128 : Shape := ⟨2, ![16, 128]⟩
abbrev S8x128 : Shape := ⟨2, ![8, 128]⟩
abbrev S1x1x1x8x128 : Shape := ⟨5, ![1, 1, 1, 8, 128]⟩
abbrev S1x1x1x1x32x128 : Shape := ⟨6, ![1, 1, 1, 1, 32, 128]⟩
abbrev S32x128 : Shape := ⟨2, ![32, 128]⟩
abbrev S1x128 : Shape := ⟨2, ![1, 128]⟩
abbrev S32x256 : Shape := ⟨2, ![32, 256]⟩
abbrev S256x256 : Shape := ⟨2, ![256, 256]⟩
abbrev S1x1x1x1x64x128 : Shape := ⟨6, ![1, 1, 1, 1, 64, 128]⟩
abbrev S64x128 : Shape := ⟨2, ![64, 128]⟩
abbrev S64x256 : Shape := ⟨2, ![64, 256]⟩
abbrev S128 : Shape := ⟨1, ![128]⟩
abbrev S128x128 : Shape := ⟨2, ![128, 128]⟩
abbrev S128x256 : Shape := ⟨2, ![128, 256]⟩
abbrev S1x1x1x3x32x128 : Shape := ⟨6, ![1, 1, 1, 3, 32, 128]⟩
abbrev S3x32x128 : Shape := ⟨3, ![3, 32, 128]⟩
abbrev S96x128 : Shape := ⟨2, ![96, 128]⟩
abbrev S112x128 : Shape := ⟨2, ![112, 128]⟩
abbrev S112x256 : Shape := ⟨2, ![112, 256]⟩
abbrev S1x1x1x4x32x128 : Shape := ⟨6, ![1, 1, 1, 4, 32, 128]⟩
abbrev S4x32x128 : Shape := ⟨3, ![4, 32, 128]⟩
abbrev S144x128 : Shape := ⟨2, ![144, 128]⟩
abbrev S144x256 : Shape := ⟨2, ![144, 256]⟩

abbrev nBuf : Space → Nat
  | .hbm => 8
  | .vmem => 15
  | .smem => 0
  | _ => 0

abbrev bufTy : (tb : Table) → Fin (tcTables nBuf tb) → BufTy
  | .hbm, ⟨0, _⟩ => ⟨S4x8x10x5x64x128, .bf16⟩
  | .hbm, ⟨1, _⟩ => ⟨S4x8x10x8x32x128, .bf16⟩
  | .hbm, ⟨2, _⟩ => ⟨S4x8x10x10x32x128, .bf16⟩
  | .hbm, ⟨3, _⟩ => ⟨S8x8x7x8x128, .f32⟩
  | .hbm, ⟨4, _⟩ => ⟨S4x8x10x8x128, .f32⟩
  | .hbm, ⟨5, _⟩ => ⟨S4x8x10x8x128, .f32⟩
  | .hbm, ⟨6, _⟩ => ⟨S105x128, .i32⟩
  | .hbm, ⟨7, _⟩ => ⟨S4x8x10x8x32x128, .bf16⟩
  | .local _ .vmem, ⟨0, _⟩ => ⟨S1x4x10x5x64x128, .bf16⟩
  | .local _ .vmem, ⟨1, _⟩ => ⟨S1x4x10x5x64x128, .bf16⟩
  | .local _ .vmem, ⟨2, _⟩ => ⟨S1x4x10x8x32x128, .bf16⟩
  | .local _ .vmem, ⟨3, _⟩ => ⟨S1x4x10x8x32x128, .bf16⟩
  | .local _ .vmem, ⟨4, _⟩ => ⟨S1x4x10x10x32x128, .bf16⟩
  | .local _ .vmem, ⟨5, _⟩ => ⟨S1x4x10x10x32x128, .bf16⟩
  | .local _ .vmem, ⟨6, _⟩ => ⟨S4x8x7x8x128, .f32⟩
  | .local _ .vmem, ⟨7, _⟩ => ⟨S4x8x7x8x128, .f32⟩
  | .local _ .vmem, ⟨8, _⟩ => ⟨S1x4x10x8x128, .f32⟩
  | .local _ .vmem, ⟨9, _⟩ => ⟨S1x4x10x8x128, .f32⟩
  | .local _ .vmem, ⟨10, _⟩ => ⟨S1x4x10x8x128, .f32⟩
  | .local _ .vmem, ⟨11, _⟩ => ⟨S1x4x10x8x128, .f32⟩
  | .local _ .vmem, ⟨12, _⟩ => ⟨S105x128, .i32⟩
  | .local _ .vmem, ⟨13, _⟩ => ⟨S1x4x10x8x32x128, .bf16⟩
  | .local _ .vmem, ⟨14, _⟩ => ⟨S1x4x10x8x32x128, .bf16⟩
  | _, _ => ⟨S4x8x10x5x64x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32_14 : BitVec 32 := 0#32
  let c8_i32 : BitVec 32 := 8#32
  let v25 : BitVec 32 := Scalar.addi c0_i32_14 c8_i32
  let c1_i32 : BitVec 32 := 1#32
  ⟨c0_i32_14, v25, c1_i32⟩
def k0_off1 (k0_t1 : Fin k0_t1_loop.trips) : Fin 5 → Nat :=
  let c0_5529 : Index := 0#32
  let c0_5530 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v9735 : Index := Scalar.indexCast v9733
  let c0_5531 : Index := 0#32
  let c0_5532 : Index := 0#32
  ![0, 0, v9735.toNat, 0, 0]
def k0_off2 (k0_t1 : Fin k0_t1_loop.trips) : Fin 6 → Nat :=
  let c0_5538 : Index := 0#32
  let c0_5539 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v9744 : Index := Scalar.indexCast v9733
  let c0_5540 : Index := 0#32
  let c0_5541 : Index := 0#32
  let c0_5542 : Index := 0#32
  ![0, 0, v9744.toNat, 0, 0, 0]
def k0_off3 (k0_t1 : Fin k0_t1_loop.trips) : Fin 6 → Nat :=
  let c0_5543 : Index := 0#32
  let c0_5544 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v9748 : Index := Scalar.indexCast v9733
  let c1_5545 : Index := 1#32
  let c0_5546 : Index := 0#32
  let c0_5547 : Index := 0#32
  ![0, 0, v9748.toNat, 1, 0, 0]
def k0_off4 (k0_t1 : Fin k0_t1_loop.trips) : Fin 6 → Nat :=
  let c0_5548 : Index := 0#32
  let c0_5549 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v9752 : Index := Scalar.indexCast v9733
  let c2_5550 : Index := 2#32
  let c0_5551 : Index := 0#32
  let c0_5552 : Index := 0#32
  ![0, 0, v9752.toNat, 2, 0, 0]
def k0_off5 (k0_t1 : Fin k0_t1_loop.trips) : Fin 6 → Nat :=
  let c0_5553 : Index := 0#32
  let c0_5554 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v9756 : Index := Scalar.indexCast v9733
  let c3_5555 : Index := 3#32
  let c0_5556 : Index := 0#32
  let c0_5557 : Index := 0#32
  ![0, 0, v9756.toNat, 3, 0, 0]
def k0_off6 (k0_t1 : Fin k0_t1_loop.trips) : Fin 6 → Nat :=
  let c0_5558 : Index := 0#32
  let c0_5559 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v9760 : Index := Scalar.indexCast v9733
  let c4_5560 : Index := 4#32
  let c0_5561 : Index := 0#32
  let c0_5562 : Index := 0#32
  ![0, 0, v9760.toNat, 4, 0, 0]
def k0_off7 (k0_t1 : Fin k0_t1_loop.trips) : Fin 6 → Nat :=
  let c0_5563 : Index := 0#32
  let c0_5564 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v9764 : Index := Scalar.indexCast v9733
  let c5_5565 : Index := 5#32
  let c0_5566 : Index := 0#32
  let c0_5567 : Index := 0#32
  ![0, 0, v9764.toNat, 5, 0, 0]
def k0_off8 (k0_t1 : Fin k0_t1_loop.trips) : Fin 6 → Nat :=
  let c0_5568 : Index := 0#32
  let c0_5569 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v9768 : Index := Scalar.indexCast v9733
  let c6_5570 : Index := 6#32
  let c0_5571 : Index := 0#32
  let c0_5572 : Index := 0#32
  ![0, 0, v9768.toNat, 6, 0, 0]
def k0_off9 (k0_t1 : Fin k0_t1_loop.trips) : Fin 6 → Nat :=
  let c0_5573 : Index := 0#32
  let c0_5574 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v9772 : Index := Scalar.indexCast v9733
  let c7_5575 : Index := 7#32
  let c0_5576 : Index := 0#32
  let c0_5577 : Index := 0#32
  ![0, 0, v9772.toNat, 7, 0, 0]
def k0_off10 (k0_t1 : Fin k0_t1_loop.trips) : Fin 6 → Nat :=
  let c0_5615 : Index := 0#32
  let c0_5616 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v9843 : Index := Scalar.indexCast v9733
  let c0_5617 : Index := 0#32
  let c0_5618 : Index := 0#32
  let c0_5619 : Index := 0#32
  ![0, 0, v9843.toNat, 0, 0, 0]
def k0_off11 (k0_t1 : Fin k0_t1_loop.trips) : Fin 6 → Nat :=
  let c0_5620 : Index := 0#32
  let c0_5621 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v9846 : Index := Scalar.indexCast v9733
  let c1_5622 : Index := 1#32
  let c0_5623 : Index := 0#32
  let c0_5624 : Index := 0#32
  ![0, 0, v9846.toNat, 1, 0, 0]
def k0_off12 (k0_t1 : Fin k0_t1_loop.trips) : Fin 6 → Nat :=
  let c0_5770 : Index := 0#32
  let c0_5771 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v10169 : Index := Scalar.indexCast v9733
  let c0_5772 : Index := 0#32
  let c0_5773 : Index := 0#32
  let c0_5774 : Index := 0#32
  ![0, 0, v10169.toNat, 0, 0, 0]
def k0_off13 (k0_t1 : Fin k0_t1_loop.trips) : Fin 6 → Nat :=
  let c0_5833 : Index := 0#32
  let c0_5834 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v10277 : Index := Scalar.indexCast v9733
  let c2_5835 : Index := 2#32
  let c0_5836 : Index := 0#32
  let c0_5837 : Index := 0#32
  ![0, 0, v10277.toNat, 2, 0, 0]
def k0_off14 (k0_t1 : Fin k0_t1_loop.trips) : Fin 6 → Nat :=
  let c0_5983 : Index := 0#32
  let c0_5984 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v10600 : Index := Scalar.indexCast v9733
  let c2_5985 : Index := 2#32
  let c0_5986 : Index := 0#32
  let c0_5987 : Index := 0#32
  ![0, 0, v10600.toNat, 2, 0, 0]
def k0_off15 (k0_t1 : Fin k0_t1_loop.trips) : Fin 6 → Nat :=
  let c0_6046 : Index := 0#32
  let c0_6047 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v10708 : Index := Scalar.indexCast v9733
  let c3_6048 : Index := 3#32
  let c0_6049 : Index := 0#32
  let c0_6050 : Index := 0#32
  ![0, 0, v10708.toNat, 3, 0, 0]
def k0_off16 (k0_t1 : Fin k0_t1_loop.trips) : Fin 6 → Nat :=
  let c0_6196 : Index := 0#32
  let c0_6197 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v11031 : Index := Scalar.indexCast v9733
  let c4_6198 : Index := 4#32
  let c0_6199 : Index := 0#32
  let c0_6200 : Index := 0#32
  ![0, 0, v11031.toNat, 4, 0, 0]
def k0_off17 (k0_t1 : Fin k0_t1_loop.trips) : Fin 6 → Nat :=
  let c0_6259 : Index := 0#32
  let c0_6260 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v11139 : Index := Scalar.indexCast v9733
  let c4_6261 : Index := 4#32
  let c0_6262 : Index := 0#32
  let c0_6263 : Index := 0#32
  ![0, 0, v11139.toNat, 4, 0, 0]
def k0_off18 (k0_t1 : Fin k0_t1_loop.trips) : Fin 6 → Nat :=
  let c0_6409 : Index := 0#32
  let c0_6410 : Index := 0#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v11462 : Index := Scalar.indexCast v9733
  let c7_6411 : Index := 7#32
  let c0_6412 : Index := 0#32
  let c0_6413 : Index := 0#32
  ![0, 0, v11462.toNat, 7, 0, 0]
def k0_off19 (k0_t1 : Fin k0_t1_loop.trips) : Fin 5 → Nat :=
  let c0_6433 : Index := 0#32
  let c1_6434 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v11506 : Index := Scalar.indexCast v9733
  let c0_6435 : Index := 0#32
  let c0_6436 : Index := 0#32
  ![0, 1, v11506.toNat, 0, 0]
def k0_off20 (k0_t1 : Fin k0_t1_loop.trips) : Fin 6 → Nat :=
  let c0_6442 : Index := 0#32
  let c1_6443 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v11515 : Index := Scalar.indexCast v9733
  let c0_6444 : Index := 0#32
  let c0_6445 : Index := 0#32
  let c0_6446 : Index := 0#32
  ![0, 1, v11515.toNat, 0, 0, 0]
def k0_off21 (k0_t1 : Fin k0_t1_loop.trips) : Fin 6 → Nat :=
  let c0_6447 : Index := 0#32
  let c1_6448 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v11519 : Index := Scalar.indexCast v9733
  let c1_6449 : Index := 1#32
  let c0_6450 : Index := 0#32
  let c0_6451 : Index := 0#32
  ![0, 1, v11519.toNat, 1, 0, 0]
def k0_off22 (k0_t1 : Fin k0_t1_loop.trips) : Fin 6 → Nat :=
  let c0_6452 : Index := 0#32
  let c1_6453 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v11523 : Index := Scalar.indexCast v9733
  let c2_6454 : Index := 2#32
  let c0_6455 : Index := 0#32
  let c0_6456 : Index := 0#32
  ![0, 1, v11523.toNat, 2, 0, 0]
def k0_off23 (k0_t1 : Fin k0_t1_loop.trips) : Fin 6 → Nat :=
  let c0_6457 : Index := 0#32
  let c1_6458 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v11527 : Index := Scalar.indexCast v9733
  let c3_6459 : Index := 3#32
  let c0_6460 : Index := 0#32
  let c0_6461 : Index := 0#32
  ![0, 1, v11527.toNat, 3, 0, 0]
def k0_off24 (k0_t1 : Fin k0_t1_loop.trips) : Fin 6 → Nat :=
  let c0_6462 : Index := 0#32
  let c1_6463 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v11531 : Index := Scalar.indexCast v9733
  let c4_6464 : Index := 4#32
  let c0_6465 : Index := 0#32
  let c0_6466 : Index := 0#32
  ![0, 1, v11531.toNat, 4, 0, 0]
def k0_off25 (k0_t1 : Fin k0_t1_loop.trips) : Fin 6 → Nat :=
  let c0_6467 : Index := 0#32
  let c1_6468 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v11535 : Index := Scalar.indexCast v9733
  let c5_6469 : Index := 5#32
  let c0_6470 : Index := 0#32
  let c0_6471 : Index := 0#32
  ![0, 1, v11535.toNat, 5, 0, 0]
def k0_off26 (k0_t1 : Fin k0_t1_loop.trips) : Fin 6 → Nat :=
  let c0_6472 : Index := 0#32
  let c1_6473 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v11539 : Index := Scalar.indexCast v9733
  let c6_6474 : Index := 6#32
  let c0_6475 : Index := 0#32
  let c0_6476 : Index := 0#32
  ![0, 1, v11539.toNat, 6, 0, 0]
def k0_off27 (k0_t1 : Fin k0_t1_loop.trips) : Fin 6 → Nat :=
  let c0_6477 : Index := 0#32
  let c1_6478 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v11543 : Index := Scalar.indexCast v9733
  let c7_6479 : Index := 7#32
  let c0_6480 : Index := 0#32
  let c0_6481 : Index := 0#32
  ![0, 1, v11543.toNat, 7, 0, 0]
def k0_off28 (k0_t1 : Fin k0_t1_loop.trips) : Fin 6 → Nat :=
  let c0_6519 : Index := 0#32
  let c1_6520 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v11614 : Index := Scalar.indexCast v9733
  let c0_6521 : Index := 0#32
  let c0_6522 : Index := 0#32
  let c0_6523 : Index := 0#32
  ![0, 1, v11614.toNat, 0, 0, 0]
def k0_off29 (k0_t1 : Fin k0_t1_loop.trips) : Fin 6 → Nat :=
  let c0_6524 : Index := 0#32
  let c1_6525 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v11617 : Index := Scalar.indexCast v9733
  let c1_6526 : Index := 1#32
  let c0_6527 : Index := 0#32
  let c0_6528 : Index := 0#32
  ![0, 1, v11617.toNat, 1, 0, 0]
def k0_off30 (k0_t1 : Fin k0_t1_loop.trips) : Fin 6 → Nat :=
  let c0_6674 : Index := 0#32
  let c1_6675 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v11940 : Index := Scalar.indexCast v9733
  let c0_6676 : Index := 0#32
  let c0_6677 : Index := 0#32
  let c0_6678 : Index := 0#32
  ![0, 1, v11940.toNat, 0, 0, 0]
def k0_off31 (k0_t1 : Fin k0_t1_loop.trips) : Fin 6 → Nat :=
  let c0_6737 : Index := 0#32
  let c1_6738 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v12048 : Index := Scalar.indexCast v9733
  let c2_6739 : Index := 2#32
  let c0_6740 : Index := 0#32
  let c0_6741 : Index := 0#32
  ![0, 1, v12048.toNat, 2, 0, 0]
def k0_off32 (k0_t1 : Fin k0_t1_loop.trips) : Fin 6 → Nat :=
  let c0_6887 : Index := 0#32
  let c1_6888 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v12371 : Index := Scalar.indexCast v9733
  let c2_6889 : Index := 2#32
  let c0_6890 : Index := 0#32
  let c0_6891 : Index := 0#32
  ![0, 1, v12371.toNat, 2, 0, 0]
def k0_off33 (k0_t1 : Fin k0_t1_loop.trips) : Fin 6 → Nat :=
  let c0_6950 : Index := 0#32
  let c1_6951 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v12479 : Index := Scalar.indexCast v9733
  let c3_6952 : Index := 3#32
  let c0_6953 : Index := 0#32
  let c0_6954 : Index := 0#32
  ![0, 1, v12479.toNat, 3, 0, 0]
def k0_off34 (k0_t1 : Fin k0_t1_loop.trips) : Fin 6 → Nat :=
  let c0_7100 : Index := 0#32
  let c1_7101 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v12802 : Index := Scalar.indexCast v9733
  let c4_7102 : Index := 4#32
  let c0_7103 : Index := 0#32
  let c0_7104 : Index := 0#32
  ![0, 1, v12802.toNat, 4, 0, 0]
def k0_off35 (k0_t1 : Fin k0_t1_loop.trips) : Fin 6 → Nat :=
  let c0_7163 : Index := 0#32
  let c1_7164 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v12910 : Index := Scalar.indexCast v9733
  let c4_7165 : Index := 4#32
  let c0_7166 : Index := 0#32
  let c0_7167 : Index := 0#32
  ![0, 1, v12910.toNat, 4, 0, 0]
def k0_off36 (k0_t1 : Fin k0_t1_loop.trips) : Fin 6 → Nat :=
  let c0_7313 : Index := 0#32
  let c1_7314 : Index := 1#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v13233 : Index := Scalar.indexCast v9733
  let c7_7315 : Index := 7#32
  let c0_7316 : Index := 0#32
  let c0_7317 : Index := 0#32
  ![0, 1, v13233.toNat, 7, 0, 0]
def k0_off37 (k0_t1 : Fin k0_t1_loop.trips) : Fin 5 → Nat :=
  let c0_7337 : Index := 0#32
  let c2_7338 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v13277 : Index := Scalar.indexCast v9733
  let c0_7339 : Index := 0#32
  let c0_7340 : Index := 0#32
  ![0, 2, v13277.toNat, 0, 0]
def k0_off38 (k0_t1 : Fin k0_t1_loop.trips) : Fin 6 → Nat :=
  let c0_7346 : Index := 0#32
  let c2_7347 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v13286 : Index := Scalar.indexCast v9733
  let c0_7348 : Index := 0#32
  let c0_7349 : Index := 0#32
  let c0_7350 : Index := 0#32
  ![0, 2, v13286.toNat, 0, 0, 0]
def k0_off39 (k0_t1 : Fin k0_t1_loop.trips) : Fin 6 → Nat :=
  let c0_7351 : Index := 0#32
  let c2_7352 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v13290 : Index := Scalar.indexCast v9733
  let c1_7353 : Index := 1#32
  let c0_7354 : Index := 0#32
  let c0_7355 : Index := 0#32
  ![0, 2, v13290.toNat, 1, 0, 0]
def k0_off40 (k0_t1 : Fin k0_t1_loop.trips) : Fin 6 → Nat :=
  let c0_7356 : Index := 0#32
  let c2_7357 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v13294 : Index := Scalar.indexCast v9733
  let c2_7358 : Index := 2#32
  let c0_7359 : Index := 0#32
  let c0_7360 : Index := 0#32
  ![0, 2, v13294.toNat, 2, 0, 0]
def k0_off41 (k0_t1 : Fin k0_t1_loop.trips) : Fin 6 → Nat :=
  let c0_7361 : Index := 0#32
  let c2_7362 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v13298 : Index := Scalar.indexCast v9733
  let c3_7363 : Index := 3#32
  let c0_7364 : Index := 0#32
  let c0_7365 : Index := 0#32
  ![0, 2, v13298.toNat, 3, 0, 0]
def k0_off42 (k0_t1 : Fin k0_t1_loop.trips) : Fin 6 → Nat :=
  let c0_7366 : Index := 0#32
  let c2_7367 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v13302 : Index := Scalar.indexCast v9733
  let c4_7368 : Index := 4#32
  let c0_7369 : Index := 0#32
  let c0_7370 : Index := 0#32
  ![0, 2, v13302.toNat, 4, 0, 0]
def k0_off43 (k0_t1 : Fin k0_t1_loop.trips) : Fin 6 → Nat :=
  let c0_7371 : Index := 0#32
  let c2_7372 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v13306 : Index := Scalar.indexCast v9733
  let c5_7373 : Index := 5#32
  let c0_7374 : Index := 0#32
  let c0_7375 : Index := 0#32
  ![0, 2, v13306.toNat, 5, 0, 0]
def k0_off44 (k0_t1 : Fin k0_t1_loop.trips) : Fin 6 → Nat :=
  let c0_7376 : Index := 0#32
  let c2_7377 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v13310 : Index := Scalar.indexCast v9733
  let c6_7378 : Index := 6#32
  let c0_7379 : Index := 0#32
  let c0_7380 : Index := 0#32
  ![0, 2, v13310.toNat, 6, 0, 0]
def k0_off45 (k0_t1 : Fin k0_t1_loop.trips) : Fin 6 → Nat :=
  let c0_7381 : Index := 0#32
  let c2_7382 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v13314 : Index := Scalar.indexCast v9733
  let c7_7383 : Index := 7#32
  let c0_7384 : Index := 0#32
  let c0_7385 : Index := 0#32
  ![0, 2, v13314.toNat, 7, 0, 0]
def k0_off46 (k0_t1 : Fin k0_t1_loop.trips) : Fin 6 → Nat :=
  let c0_7423 : Index := 0#32
  let c2_7424 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v13385 : Index := Scalar.indexCast v9733
  let c0_7425 : Index := 0#32
  let c0_7426 : Index := 0#32
  let c0_7427 : Index := 0#32
  ![0, 2, v13385.toNat, 0, 0, 0]
def k0_off47 (k0_t1 : Fin k0_t1_loop.trips) : Fin 6 → Nat :=
  let c0_7428 : Index := 0#32
  let c2_7429 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v13388 : Index := Scalar.indexCast v9733
  let c1_7430 : Index := 1#32
  let c0_7431 : Index := 0#32
  let c0_7432 : Index := 0#32
  ![0, 2, v13388.toNat, 1, 0, 0]
def k0_off48 (k0_t1 : Fin k0_t1_loop.trips) : Fin 6 → Nat :=
  let c0_7578 : Index := 0#32
  let c2_7579 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v13711 : Index := Scalar.indexCast v9733
  let c0_7580 : Index := 0#32
  let c0_7581 : Index := 0#32
  let c0_7582 : Index := 0#32
  ![0, 2, v13711.toNat, 0, 0, 0]
def k0_off49 (k0_t1 : Fin k0_t1_loop.trips) : Fin 6 → Nat :=
  let c0_7641 : Index := 0#32
  let c2_7642 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v13819 : Index := Scalar.indexCast v9733
  let c2_7643 : Index := 2#32
  let c0_7644 : Index := 0#32
  let c0_7645 : Index := 0#32
  ![0, 2, v13819.toNat, 2, 0, 0]
def k0_off50 (k0_t1 : Fin k0_t1_loop.trips) : Fin 6 → Nat :=
  let c0_7791 : Index := 0#32
  let c2_7792 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v14142 : Index := Scalar.indexCast v9733
  let c2_7793 : Index := 2#32
  let c0_7794 : Index := 0#32
  let c0_7795 : Index := 0#32
  ![0, 2, v14142.toNat, 2, 0, 0]
def k0_off51 (k0_t1 : Fin k0_t1_loop.trips) : Fin 6 → Nat :=
  let c0_7854 : Index := 0#32
  let c2_7855 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v14250 : Index := Scalar.indexCast v9733
  let c3_7856 : Index := 3#32
  let c0_7857 : Index := 0#32
  let c0_7858 : Index := 0#32
  ![0, 2, v14250.toNat, 3, 0, 0]
def k0_off52 (k0_t1 : Fin k0_t1_loop.trips) : Fin 6 → Nat :=
  let c0_8004 : Index := 0#32
  let c2_8005 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v14573 : Index := Scalar.indexCast v9733
  let c4_8006 : Index := 4#32
  let c0_8007 : Index := 0#32
  let c0_8008 : Index := 0#32
  ![0, 2, v14573.toNat, 4, 0, 0]
def k0_off53 (k0_t1 : Fin k0_t1_loop.trips) : Fin 6 → Nat :=
  let c0_8067 : Index := 0#32
  let c2_8068 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v14681 : Index := Scalar.indexCast v9733
  let c4_8069 : Index := 4#32
  let c0_8070 : Index := 0#32
  let c0_8071 : Index := 0#32
  ![0, 2, v14681.toNat, 4, 0, 0]
def k0_off54 (k0_t1 : Fin k0_t1_loop.trips) : Fin 6 → Nat :=
  let c0_8217 : Index := 0#32
  let c2_8218 : Index := 2#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v15004 : Index := Scalar.indexCast v9733
  let c7_8219 : Index := 7#32
  let c0_8220 : Index := 0#32
  let c0_8221 : Index := 0#32
  ![0, 2, v15004.toNat, 7, 0, 0]
def k0_off55 (k0_t1 : Fin k0_t1_loop.trips) : Fin 5 → Nat :=
  let c0_8241 : Index := 0#32
  let c3_8242 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v15048 : Index := Scalar.indexCast v9733
  let c0_8243 : Index := 0#32
  let c0_8244 : Index := 0#32
  ![0, 3, v15048.toNat, 0, 0]
def k0_off56 (k0_t1 : Fin k0_t1_loop.trips) : Fin 6 → Nat :=
  let c0_8250 : Index := 0#32
  let c3_8251 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v15057 : Index := Scalar.indexCast v9733
  let c0_8252 : Index := 0#32
  let c0_8253 : Index := 0#32
  let c0_8254 : Index := 0#32
  ![0, 3, v15057.toNat, 0, 0, 0]
def k0_off57 (k0_t1 : Fin k0_t1_loop.trips) : Fin 6 → Nat :=
  let c0_8255 : Index := 0#32
  let c3_8256 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v15061 : Index := Scalar.indexCast v9733
  let c1_8257 : Index := 1#32
  let c0_8258 : Index := 0#32
  let c0_8259 : Index := 0#32
  ![0, 3, v15061.toNat, 1, 0, 0]
def k0_off58 (k0_t1 : Fin k0_t1_loop.trips) : Fin 6 → Nat :=
  let c0_8260 : Index := 0#32
  let c3_8261 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v15065 : Index := Scalar.indexCast v9733
  let c2_8262 : Index := 2#32
  let c0_8263 : Index := 0#32
  let c0_8264 : Index := 0#32
  ![0, 3, v15065.toNat, 2, 0, 0]
def k0_off59 (k0_t1 : Fin k0_t1_loop.trips) : Fin 6 → Nat :=
  let c0_8265 : Index := 0#32
  let c3_8266 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v15069 : Index := Scalar.indexCast v9733
  let c3_8267 : Index := 3#32
  let c0_8268 : Index := 0#32
  let c0_8269 : Index := 0#32
  ![0, 3, v15069.toNat, 3, 0, 0]
def k0_off60 (k0_t1 : Fin k0_t1_loop.trips) : Fin 6 → Nat :=
  let c0_8270 : Index := 0#32
  let c3_8271 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v15073 : Index := Scalar.indexCast v9733
  let c4_8272 : Index := 4#32
  let c0_8273 : Index := 0#32
  let c0_8274 : Index := 0#32
  ![0, 3, v15073.toNat, 4, 0, 0]
def k0_off61 (k0_t1 : Fin k0_t1_loop.trips) : Fin 6 → Nat :=
  let c0_8275 : Index := 0#32
  let c3_8276 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v15077 : Index := Scalar.indexCast v9733
  let c5_8277 : Index := 5#32
  let c0_8278 : Index := 0#32
  let c0_8279 : Index := 0#32
  ![0, 3, v15077.toNat, 5, 0, 0]
def k0_off62 (k0_t1 : Fin k0_t1_loop.trips) : Fin 6 → Nat :=
  let c0_8280 : Index := 0#32
  let c3_8281 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v15081 : Index := Scalar.indexCast v9733
  let c6_8282 : Index := 6#32
  let c0_8283 : Index := 0#32
  let c0_8284 : Index := 0#32
  ![0, 3, v15081.toNat, 6, 0, 0]
def k0_off63 (k0_t1 : Fin k0_t1_loop.trips) : Fin 6 → Nat :=
  let c0_8285 : Index := 0#32
  let c3_8286 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v15085 : Index := Scalar.indexCast v9733
  let c7_8287 : Index := 7#32
  let c0_8288 : Index := 0#32
  let c0_8289 : Index := 0#32
  ![0, 3, v15085.toNat, 7, 0, 0]
def k0_off64 (k0_t1 : Fin k0_t1_loop.trips) : Fin 6 → Nat :=
  let c0_8327 : Index := 0#32
  let c3_8328 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v15156 : Index := Scalar.indexCast v9733
  let c0_8329 : Index := 0#32
  let c0_8330 : Index := 0#32
  let c0_8331 : Index := 0#32
  ![0, 3, v15156.toNat, 0, 0, 0]
def k0_off65 (k0_t1 : Fin k0_t1_loop.trips) : Fin 6 → Nat :=
  let c0_8332 : Index := 0#32
  let c3_8333 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v15159 : Index := Scalar.indexCast v9733
  let c1_8334 : Index := 1#32
  let c0_8335 : Index := 0#32
  let c0_8336 : Index := 0#32
  ![0, 3, v15159.toNat, 1, 0, 0]
def k0_off66 (k0_t1 : Fin k0_t1_loop.trips) : Fin 6 → Nat :=
  let c0_8482 : Index := 0#32
  let c3_8483 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v15482 : Index := Scalar.indexCast v9733
  let c0_8484 : Index := 0#32
  let c0_8485 : Index := 0#32
  let c0_8486 : Index := 0#32
  ![0, 3, v15482.toNat, 0, 0, 0]
def k0_off67 (k0_t1 : Fin k0_t1_loop.trips) : Fin 6 → Nat :=
  let c0_8545 : Index := 0#32
  let c3_8546 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v15590 : Index := Scalar.indexCast v9733
  let c2_8547 : Index := 2#32
  let c0_8548 : Index := 0#32
  let c0_8549 : Index := 0#32
  ![0, 3, v15590.toNat, 2, 0, 0]
def k0_off68 (k0_t1 : Fin k0_t1_loop.trips) : Fin 6 → Nat :=
  let c0_8695 : Index := 0#32
  let c3_8696 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v15913 : Index := Scalar.indexCast v9733
  let c2_8697 : Index := 2#32
  let c0_8698 : Index := 0#32
  let c0_8699 : Index := 0#32
  ![0, 3, v15913.toNat, 2, 0, 0]
def k0_off69 (k0_t1 : Fin k0_t1_loop.trips) : Fin 6 → Nat :=
  let c0_8758 : Index := 0#32
  let c3_8759 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v16021 : Index := Scalar.indexCast v9733
  let c3_8760 : Index := 3#32
  let c0_8761 : Index := 0#32
  let c0_8762 : Index := 0#32
  ![0, 3, v16021.toNat, 3, 0, 0]
def k0_off70 (k0_t1 : Fin k0_t1_loop.trips) : Fin 6 → Nat :=
  let c0_8908 : Index := 0#32
  let c3_8909 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v16344 : Index := Scalar.indexCast v9733
  let c4_8910 : Index := 4#32
  let c0_8911 : Index := 0#32
  let c0_8912 : Index := 0#32
  ![0, 3, v16344.toNat, 4, 0, 0]
def k0_off71 (k0_t1 : Fin k0_t1_loop.trips) : Fin 6 → Nat :=
  let c0_8971 : Index := 0#32
  let c3_8972 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v16452 : Index := Scalar.indexCast v9733
  let c4_8973 : Index := 4#32
  let c0_8974 : Index := 0#32
  let c0_8975 : Index := 0#32
  ![0, 3, v16452.toNat, 4, 0, 0]
def k0_off72 (k0_t1 : Fin k0_t1_loop.trips) : Fin 6 → Nat :=
  let c0_9121 : Index := 0#32
  let c3_9122 : Index := 3#32
  let c0_i32_5527 : BitVec 32 := 0#32
  let c0_i32_14 : BitVec 32 := 0#32
  let c1_i32 : BitVec 32 := 1#32
  let arg10 : BitVec 32 := Scf.iv c0_i32_14 c1_i32 k0_t1
  let c1_i32_5526 : BitVec 32 := 1#32
  let v9732 : BitVec 32 := Scalar.muli arg10 c1_i32_5526
  let v9733 : BitVec 32 := Scalar.addi c0_i32_5527 v9732
  let v16775 : Index := Scalar.indexCast v9733
  let c7_9123 : Index := 7#32
  let c0_9124 : Index := 0#32
  let c0_9125 : Index := 0#32
  ![0, 3, v16775.toNat, 7, 0, 0]
def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_1 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_2 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg1.toNat, c0_i32.toNat, c0_i32_0.toNat, c0_i32_1.toNat, c0_i32_2.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

abbrev stage0_0 : Fin 2 → Memref sig .tc .vmem S1x4x10x5x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x10x8x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x10x10x32x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x8x7x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4x10x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x10x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S105x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4x10x8x32x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((Real.sqrt 32)⁻¹ * (Real.log 2)⁻¹ : ℝ) : EReal)
  | _ => none
-- ==== ReferenceIdeal.lean ====
abbrev S4x8x10x5x64x128 : Shape := ⟨6, ![4, 8, 10, 5, 64, 128]⟩
abbrev S4x8x10x8x32x128 : Shape := ⟨6, ![4, 8, 10, 8, 32, 128]⟩
abbrev S4x8x10x10x32x128 : Shape := ⟨6, ![4, 8, 10, 10, 32, 128]⟩
abbrev S8x8x7x8x128 : Shape := ⟨5, ![8, 8, 7, 8, 128]⟩
abbrev S4x8x10x8x128 : Shape := ⟨5, ![4, 8, 10, 8, 128]⟩
abbrev S10x8x128x20x7x8 : Shape := ⟨6, ![10, 8, 128, 20, 7, 8]⟩
abbrev S_ : Shape := ⟨0, ![]⟩
abbrev S4x8x10x5x8x8x4x32 : Shape := ⟨8, ![4, 8, 10, 5, 8, 8, 4, 32]⟩
abbrev S4x8x10x5x4x8x8x32 : Shape := ⟨8, ![4, 8, 10, 5, 4, 8, 8, 32]⟩
abbrev S4x8x10x20x8x8x32 : Shape := ⟨7, ![4, 8, 10, 20, 8, 8, 32]⟩
abbrev S4x8x10x20x7x8x32 : Shape := ⟨7, ![4, 8, 10, 20, 7, 8, 32]⟩
abbrev S4x8x10x1120x32 : Shape := ⟨5, ![4, 8, 10, 1120, 32]⟩
abbrev S4x8x10x10x32x8x2x8 : Shape := ⟨8, ![4, 8, 10, 10, 32, 8, 2, 8]⟩
abbrev S4x8x10x10x2x8x8x32 : Shape := ⟨8, ![4, 8, 10, 10, 2, 8, 8, 32]⟩
abbrev S8x8x128x7x8 : Shape := ⟨5, ![8, 8, 128, 7, 8]⟩
abbrev S8x8x128x1x7x8 : Shape := ⟨6, ![8, 8, 128, 1, 7, 8]⟩
abbrev S8x8x128x20x7x8 : Shape := ⟨6, ![8, 8, 128, 20, 7, 8]⟩
abbrev S4x8x10x8x128x1120 : Shape := ⟨6, ![4, 8, 10, 8, 128, 1120]⟩
abbrev S4x8x10x8x128x1 : Shape := ⟨6, ![4, 8, 10, 8, 128, 1]⟩
abbrev S1x8x1x8x128x1120 : Shape := ⟨6, ![1, 8, 1, 8, 128, 1120]⟩
abbrev S10x8x128x1120 : Shape := ⟨4, ![10, 8, 128, 1120]⟩
abbrev S4x8x10x32x8x128 : Shape := ⟨6, ![4, 8, 10, 32, 8, 128]⟩

abbrev nBuf : Space → Nat
  | .hbm => 115
  | .vmem => 0
  | .smem => 0
  | _ => 0

abbrev bufTy : (tb : Table) → Fin (tcTables nBuf tb) → BufTy
  | .hbm, ⟨0, _⟩ => ⟨S4x8x10x5x64x128, .bf16⟩
  | .hbm, ⟨1, _⟩ => ⟨S4x8x10x8x32x128, .bf16⟩
  | .hbm, ⟨2, _⟩ => ⟨S4x8x10x10x32x128, .bf16⟩
  | .hbm, ⟨3, _⟩ => ⟨S8x8x7x8x128, .f32⟩
  | .hbm, ⟨4, _⟩ => ⟨S4x8x10x8x128, .f32⟩
  | .hbm, ⟨5, _⟩ => ⟨S4x8x10x8x128, .f32⟩
  | .hbm, ⟨6, _⟩ => ⟨S10x8x128x20x7x8, .i32⟩
  | .hbm, ⟨7, _⟩ => ⟨S10x8x128x20x7x8, .i32⟩
  | .hbm, ⟨8, _⟩ => ⟨S10x8x128x20x7x8, .i32⟩
  | .hbm, ⟨9, _⟩ => ⟨S10x8x128x20x7x8, .i32⟩
  | .hbm, ⟨10, _⟩ => ⟨S10x8x128x20x7x8, .i32⟩
  | .hbm, ⟨11, _⟩ => ⟨S10x8x128x20x7x8, .i32⟩
  | .hbm, ⟨12, _⟩ => ⟨S_, .i32⟩
  | .hbm, ⟨13, _⟩ => ⟨S10x8x128x20x7x8, .i32⟩
  | .hbm, ⟨14, _⟩ => ⟨S10x8x128x20x7x8, .i1⟩
  | .hbm, ⟨15, _⟩ => ⟨S_, .i32⟩
  | .hbm, ⟨16, _⟩ => ⟨S10x8x128x20x7x8, .i32⟩
  | .hbm, ⟨17, _⟩ => ⟨S10x8x128x20x7x8, .i1⟩
  | .hbm, ⟨18, _⟩ => ⟨S_, .i32⟩
  | .hbm, ⟨19, _⟩ => ⟨S_, .i32⟩
  | .hbm, ⟨20, _⟩ => ⟨S10x8x128x20x7x8, .i32⟩
  | .hbm, ⟨21, _⟩ => ⟨S10x8x128x20x7x8, .i32⟩
  | .hbm, ⟨22, _⟩ => ⟨S10x8x128x20x7x8, .i32⟩
  | .hbm, ⟨23, _⟩ => ⟨S_, .i32⟩
  | .hbm, ⟨24, _⟩ => ⟨S10x8x128x20x7x8, .i32⟩
  | .hbm, ⟨25, _⟩ => ⟨S10x8x128x20x7x8, .i32⟩
  | .hbm, ⟨26, _⟩ => ⟨S_, .i32⟩
  | .hbm, ⟨27, _⟩ => ⟨S10x8x128x20x7x8, .i32⟩
  | .hbm, ⟨28, _⟩ => ⟨S10x8x128x20x7x8, .i32⟩
  | .hbm, ⟨29, _⟩ => ⟨S_, .i32⟩
  | .hbm, ⟨30, _⟩ => ⟨S10x8x128x20x7x8, .i32⟩
  | .hbm, ⟨31, _⟩ => ⟨S10x8x128x20x7x8, .i32⟩
  | .hbm, ⟨32, _⟩ => ⟨S10x8x128x20x7x8, .i32⟩
  | .hbm, ⟨33, _⟩ => ⟨S_, .i32⟩
  | .hbm, ⟨34, _⟩ => ⟨S10x8x128x20x7x8, .i32⟩
  | .hbm, ⟨35, _⟩ => ⟨S10x8x128x20x7x8, .i32⟩
  | .hbm, ⟨36, _⟩ => ⟨S_, .i32⟩
  | .hbm, ⟨37, _⟩ => ⟨S10x8x128x20x7x8, .i32⟩
  | .hbm, ⟨38, _⟩ => ⟨S10x8x128x20x7x8, .i32⟩
  | .hbm, ⟨39, _⟩ => ⟨S10x8x128x20x7x8, .i32⟩
  | .hbm, ⟨40, _⟩ => ⟨S_, .i32⟩
  | .hbm, ⟨41, _⟩ => ⟨S10x8x128x20x7x8, .i32⟩
  | .hbm, ⟨42, _⟩ => ⟨S10x8x128x20x7x8, .i32⟩
  | .hbm, ⟨43, _⟩ => ⟨S_, .i32⟩
  | .hbm, ⟨44, _⟩ => ⟨S10x8x128x20x7x8, .i32⟩
  | .hbm, ⟨45, _⟩ => ⟨S10x8x128x20x7x8, .i32⟩
  | .hbm, ⟨46, _⟩ => ⟨S10x8x128x20x7x8, .i1⟩
  | .hbm, ⟨47, _⟩ => ⟨S10x8x128x20x7x8, .i32⟩
  | .hbm, ⟨48, _⟩ => ⟨S10x8x128x20x7x8, .i1⟩
  | .hbm, ⟨49, _⟩ => ⟨S10x8x128x20x7x8, .i1⟩
  | .hbm, ⟨50, _⟩ => ⟨S_, .i32⟩
  | .hbm, ⟨51, _⟩ => ⟨S10x8x128x20x7x8, .i32⟩
  | .hbm, ⟨52, _⟩ => ⟨S10x8x128x20x7x8, .i1⟩
  | .hbm, ⟨53, _⟩ => ⟨S10x8x128x20x7x8, .i1⟩
  | .hbm, ⟨54, _⟩ => ⟨S_, .i32⟩
  | .hbm, ⟨55, _⟩ => ⟨S10x8x128x20x7x8, .i32⟩
  | .hbm, ⟨56, _⟩ => ⟨S10x8x128x20x7x8, .i1⟩
  | .hbm, ⟨57, _⟩ => ⟨S10x8x128x20x7x8, .i1⟩
  | .hbm, ⟨58, _⟩ => ⟨S_, .i32⟩
  | .hbm, ⟨59, _⟩ => ⟨S10x8x128x20x7x8, .i32⟩
  | .hbm, ⟨60, _⟩ => ⟨S10x8x128x20x7x8, .i1⟩
  | .hbm, ⟨61, _⟩ => ⟨S10x8x128x20x7x8, .i1⟩
  | .hbm, ⟨62, _⟩ => ⟨S4x8x10x5x64x128, .f32⟩
  | .hbm, ⟨63, _⟩ => ⟨S4x8x10x5x8x8x4x32, .f32⟩
  | .hbm, ⟨64, _⟩ => ⟨S4x8x10x5x4x8x8x32, .f32⟩
  | .hbm, ⟨65, _⟩ => ⟨S4x8x10x20x8x8x32, .f32⟩
  | .hbm, ⟨66, _⟩ => ⟨S4x8x10x20x7x8x32, .f32⟩
  | .hbm, ⟨67, _⟩ => ⟨S4x8x10x1120x32, .f32⟩
  | .hbm, ⟨68, _⟩ => ⟨S4x8x10x10x32x128, .f32⟩
  | .hbm, ⟨69, _⟩ => ⟨S4x8x10x10x32x8x2x8, .f32⟩
  | .hbm, ⟨70, _⟩ => ⟨S4x8x10x10x2x8x8x32, .f32⟩
  | .hbm, ⟨71, _⟩ => ⟨S4x8x10x20x8x8x32, .f32⟩
  | .hbm, ⟨72, _⟩ => ⟨S4x8x10x20x7x8x32, .f32⟩
  | .hbm, ⟨73, _⟩ => ⟨S4x8x10x1120x32, .f32⟩
  | .hbm, ⟨74, _⟩ => ⟨S8x8x128x7x8, .f32⟩
  | .hbm, ⟨75, _⟩ => ⟨S8x8x128x1x7x8, .f32⟩
  | .hbm, ⟨76, _⟩ => ⟨S8x8x128x20x7x8, .f32⟩
  | .hbm, ⟨77, _⟩ => ⟨S4x8x10x8x32x128, .f32⟩
  | .hbm, ⟨78, _⟩ => ⟨S4x8x10x8x128x1120, .f32⟩
  | .hbm, ⟨79, _⟩ => ⟨S4x8x10x8x128, .f32⟩
  | .hbm, ⟨80, _⟩ => ⟨S_, .f32⟩
  | .hbm, ⟨81, _⟩ => ⟨S_, .f32⟩
  | .hbm, ⟨82, _⟩ => ⟨S4x8x10x8x128, .f32⟩
  | .hbm, ⟨83, _⟩ => ⟨S4x8x10x8x128, .f32⟩
  | .hbm, ⟨84, _⟩ => ⟨S4x8x10x8x128x1, .f32⟩
  | .hbm, ⟨85, _⟩ => ⟨S4x8x10x8x128x1120, .f32⟩
  | .hbm, ⟨86, _⟩ => ⟨S4x8x10x8x128x1120, .f32⟩
  | .hbm, ⟨87, _⟩ => ⟨S1x8x1x8x128x1120, .f32⟩
  | .hbm, ⟨88, _⟩ => ⟨S4x8x10x8x128x1120, .f32⟩
  | .hbm, ⟨89, _⟩ => ⟨S4x8x10x8x128x1120, .f32⟩
  | .hbm, ⟨90, _⟩ => ⟨S10x8x128x1120, .i1⟩
  | .hbm, ⟨91, _⟩ => ⟨S_, .f32⟩
  | .hbm, ⟨92, _⟩ => ⟨S_, .f32⟩
  | .hbm, ⟨93, _⟩ => ⟨S4x8x10x8x128x1120, .i1⟩
  | .hbm, ⟨94, _⟩ => ⟨S4x8x10x8x128x1120, .f32⟩
  | .hbm, ⟨95, _⟩ => ⟨S4x8x10x8x128x1120, .f32⟩
  | .hbm, ⟨96, _⟩ => ⟨S_, .f32⟩
  | .hbm, ⟨97, _⟩ => ⟨S4x8x10x8x128, .f32⟩
  | .hbm, ⟨98, _⟩ => ⟨S4x8x10x8x128x1, .f32⟩
  | .hbm, ⟨99, _⟩ => ⟨S4x8x10x8x128x1120, .f32⟩
  | .hbm, ⟨100, _⟩ => ⟨S4x8x10x8x128x1120, .f32⟩
  | .hbm, ⟨101, _⟩ => ⟨S4x8x10x8x128x1120, .f32⟩
  | .hbm, ⟨102, _⟩ => ⟨S_, .f32⟩
  | .hbm, ⟨103, _⟩ => ⟨S4x8x10x8x128, .f32⟩
  | .hbm, ⟨104, _⟩ => ⟨S4x8x10x8x128x1, .f32⟩
  | .hbm, ⟨105, _⟩ => ⟨S_, .f32⟩
  | .hbm, ⟨106, _⟩ => ⟨S4x8x10x8x128x1, .f32⟩
  | .hbm, ⟨107, _⟩ => ⟨S4x8x10x8x128x1, .f32⟩
  | .hbm, ⟨108, _⟩ => ⟨S4x8x10x8x128x1120, .f32⟩
  | .hbm, ⟨109, _⟩ => ⟨S4x8x10x8x128x1120, .f32⟩
  | .hbm, ⟨110, _⟩ => ⟨S4x8x10x8x128x1120, .bf16⟩
  | .hbm, ⟨111, _⟩ => ⟨S4x8x10x8x128x1120, .f32⟩
  | .hbm, ⟨112, _⟩ => ⟨S4x8x10x32x8x128, .f32⟩
  | .hbm, ⟨113, _⟩ => ⟨S4x8x10x8x32x128, .f32⟩
  | .hbm, ⟨114, _⟩ => ⟨S4x8x10x8x32x128, .bf16⟩
  | _, _ => ⟨S4x8x10x5x64x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_c_3 : Ref sig .tc := ⟨.hbm, 23, rfl⟩
abbrev main_call1_v0 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_6 : Ref sig .tc := ⟨.hbm, 33, rfl⟩
abbrev main_v17 : Ref sig .tc := ⟨.hbm, 34, rfl⟩
abbrev main_v18 : Ref sig .tc := ⟨.hbm, 35, rfl⟩
abbrev main_c_7 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_8 : Ref sig .tc := ⟨.hbm, 40, rfl⟩
abbrev main_v22 : Ref sig .tc := ⟨.hbm, 41, rfl⟩
abbrev main_v23 : Ref sig .tc := ⟨.hbm, 42, rfl⟩
abbrev main_c_9 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_10 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_11 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_12 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_cst_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩

abbrev nD : Nat := 1
abbrev τ : Topo := Topo.v7x

variable {F : FTy → Type} [FloatOps F]
-- ==== Proof.Stages.lean ====
/- The stages of the kernel's body as functions of what they read: one tile pair of one head is the spread of the query
   codes over the window slots, the score product, the softmax weights of each tile, the value product and the two tiles'
   results. The printed body writes these out for every tile pair of every head. -/
module

public import proofs.«01_k».proof.Proof.Gen.KernelIdeal

@[expose] public section

noncomputable section

namespace Cert.KernelIdeal.Stages

open Cert.KernelIdeal Cert.KernelIdeal.Gen Idealize.ShloMosaic

variable {F : FTy → Type} [FloatOps F] [Named F]

/-- A block of zero query codes. -/
def noCodes : FVec F S32x128 .fp8e4m3 := broadcast S32x128 (Scalar.ofBits .fp8e4m3 0x00#8)

/-- A tile's query codes in the lanes that a table row marks, zero elsewhere. -/
def picked (q : Vec F S1x1x1x1x32x128 .bf16) (row : Vec F S1x128 .i32) : FVec F S32x128 .fp8e4m3 :=
  select (cmpi .ne (broadcastTo S32x128 (shapeCast S1x128 row shapeCasts_S1x128_S1x128) broadcasts_S1x128_S32x128)
      (broadcast S32x128 0#32))
    (truncf .fp8e4m3 (shapeCast S32x128 q shapeCasts_S1x1x1x1x32x128_S32x128) bitsLt_fp8e4m3_bf16) noCodes

/-- Two tiles' codes of one window slot side by side. -/
def slot (a : Fin 2 → Fin 8 → FVec F S32x128 .fp8e4m3) (u : Fin 8) : FVec F S32x256 .fp8e4m3 :=
  concatenate S32x256 1 [⟨S32x128, a 0 u⟩, ⟨S32x128, a 1 u⟩] concatenates_S32x128_S32x128_S32x256_d1

/-- The eight window slots of a tile pair, one below the other. -/
def spread (a : Fin 2 → Fin 8 → FVec F S32x128 .fp8e4m3) : FVec F S256x256 .fp8e4m3 :=
  concatenate S256x256 0 [⟨S32x256, slot a 0⟩, ⟨S32x256, slot a 1⟩, ⟨S32x256, slot a 2⟩, ⟨S32x256, slot a 3⟩,
      ⟨S32x256, slot a 4⟩, ⟨S32x256, slot a 5⟩, ⟨S32x256, slot a 6⟩, ⟨S32x256, slot a 7⟩]
    concatenates_S32x256_S32x256_S32x256_S32x256_S32x256_S32x256_S32x256_S32x256_S256x256_d0

/-- The score product of a tile pair: two blocks of key codes against the spread query codes. -/
def scores (k0 k1 : Vec F S1x1x1x1x64x128 .bf16) (a : Fin 2 → Fin 8 → FVec F S32x128 .fp8e4m3) : FVec F S64x256 .f32 :=
  matmul dot_S64x256_S256x256_S64x256_1_0_0_1_n_n none
    (truncf .fp8e4m3 (concatenate S64x256 1 [⟨S64x128, shapeCast S64x128 k0 shapeCasts_S1x1x1x1x64x128_S64x128⟩,
        ⟨S64x128, shapeCast S64x128 k1 shapeCasts_S1x1x1x1x64x128_S64x128⟩] concatenates_S64x128_S64x128_S64x256_d1)
      bitsLt_fp8e4m3_bf16)
    (spread a) (constant S64x256 .f32 0x00000000#32)

/-- The column scales of a head's tiles, with the scale of the scores. -/
def scale (qs ks : Vec F S1x1x1x8x128 .f32) : FVec F S8x128 .f32 :=
  mulf (mulf (shapeCast S8x128 qs shapeCasts_S1x1x1x8x128_S8x128) (shapeCast S8x128 ks shapeCasts_S1x1x1x8x128_S8x128))
    (broadcast S8x128 (Named.named κ "scale_log2e" 0x3E8293EE#32))

/-- The places of a tile that hold a key. -/
def held (t : Vec F S8x128 .i32) : IVec S8x128 1 := cmpi .ne t (broadcast S8x128 0#32)

/-- The scores of one key row of one tile: rescaled, with the bias, masked. -/
def logits (ok : IVec S8x128 1) (c : FVec F S1x128 .f32) (s : FVec F S8x128 .f32) (b : Vec F S1x1x1x8x128 .f32) :
    FVec F S8x128 .f32 :=
  addf (mulf s (broadcastTo S8x128 c broadcasts_S1x128_S8x128))
    (select ok (mulf (shapeCast S8x128 b shapeCasts_S1x1x1x8x128_S8x128) (broadcast S8x128 (Named.named κ "log2e" 0x3FB8AA3B#32)))
      (broadcast S8x128 (Named.named κ "mask" 0xF149F2CA#32)))

/-- The greatest score of each lane. -/
def top (x : Fin 7 → FVec F S8x128 .f32) : FVec F S1x128 .f32 :=
  shapeCast S1x128 (multiReduction .maximumf [0] S128
    (maximumf (maximumf (maximumf (maximumf (maximumf (maximumf (x 0) (x 1)) (x 2)) (x 3)) (x 4)) (x 5)) (x 6))
    0xFF800000#32 reduces_S8x128_S128 (.inl rfl) rfl) shapeCasts_S128_S1x128

/-- The softmax weights of one key row. -/
def weight (x : FVec F S8x128 .f32) (t : FVec F S1x128 .f32) : FVec F S8x128 .bf16 :=
  truncf .bf16 (exp2 (subf x (broadcastTo S8x128 t broadcasts_S1x128_S8x128))) bitsLt_bf16_f32

/-- The lanes whose window has an even number, from a table row. -/
def even (row : Vec F S1x128 .i32) : IVec S8x128 1 :=
  cmpi .ne (broadcastTo S8x128 (shapeCast S1x128 row shapeCasts_S1x128_S1x128) broadcasts_S1x128_S8x128) (broadcast S8x128 0#32)

/-- The weights in the lanes of even windows. -/
def evens (row : Vec F S1x128 .i32) (e : FVec F S8x128 .bf16) : FVec F S8x128 .bf16 :=
  select (even row) e (broadcast S8x128 (Scalar.ofBits .bf16 0x0000#16))

/-- The weights in the lanes of odd windows. -/
def odds (row : Vec F S1x128 .i32) (e : FVec F S8x128 .bf16) : FVec F S8x128 .bf16 :=
  select (even row) (broadcast S8x128 (Scalar.ofBits .bf16 0x0000#16)) e

/-- The softmax weights of one tile, laid out as the value blocks lay out their keys. -/
def weights (row : Vec F S1x128 .i32) (x : Fin 7 → FVec F S8x128 .f32) : FVec F S128x128 .bf16 :=
  concatenate S128x128 0 [⟨S8x128, evens row (weight (x 0) (top x))⟩, ⟨S8x128, odds row (weight (x 0) (top x))⟩,
      ⟨S8x128, evens row (weight (x 1) (top x))⟩, ⟨S8x128, odds row (weight (x 1) (top x))⟩,
      ⟨S8x128, evens row (weight (x 2) (top x))⟩, ⟨S8x128, odds row (weight (x 2) (top x))⟩,
      ⟨S8x128, evens row (weight (x 3) (top x))⟩, ⟨S8x128, odds row (weight (x 3) (top x))⟩,
      ⟨S8x128, evens row (weight (x 4) (top x))⟩, ⟨S8x128, odds row (weight (x 4) (top x))⟩,
      ⟨S8x128, evens row (weight (x 5) (top x))⟩, ⟨S8x128, odds row (weight (x 5) (top x))⟩,
      ⟨S8x128, evens row (weight (x 6) (top x))⟩, ⟨S8x128, odds row (weight (x 6) (top x))⟩,
      ⟨S16x128, broadcast S16x128 (Scalar.ofBits .bf16 0x0000#16)⟩]
    concatenates_S8x128_S8x128_S8x128_S8x128_S8x128_S8x128_S8x128_S8x128_S8x128_S8x128_S8x128_S8x128_S8x128_S8x128_S16x128_S128x128_d0

/-- The greatest score of each lane over the first five key rows. -/
def top5 (x : Fin 7 → FVec F S8x128 .f32) : FVec F S1x128 .f32 :=
  shapeCast S1x128 (multiReduction .maximumf [0] S128
    (maximumf (maximumf (maximumf (maximumf (x 0) (x 1)) (x 2)) (x 3)) (x 4))
    0xFF800000#32 reduces_S8x128_S128 (.inl rfl) rfl) shapeCasts_S128_S1x128

/-- The softmax weights of one tile that has five key rows. -/
def weights5 (row : Vec F S1x128 .i32) (x : Fin 7 → FVec F S8x128 .f32) : FVec F S128x128 .bf16 :=
  concatenate S128x128 0 [⟨S8x128, evens row (weight (x 0) (top5 x))⟩, ⟨S8x128, odds row (weight (x 0) (top5 x))⟩,
      ⟨S8x128, evens row (weight (x 1) (top5 x))⟩, ⟨S8x128, odds row (weight (x 1) (top5 x))⟩,
      ⟨S8x128, evens row (weight (x 2) (top5 x))⟩, ⟨S8x128, odds row (weight (x 2) (top5 x))⟩,
      ⟨S8x128, evens row (weight (x 3) (top5 x))⟩, ⟨S8x128, odds row (weight (x 3) (top5 x))⟩,
      ⟨S8x128, evens row (weight (x 4) (top5 x))⟩, ⟨S8x128, odds row (weight (x 4) (top5 x))⟩,
      ⟨S16x128, broadcast S16x128 (Scalar.ofBits .bf16 0x0000#16)⟩, ⟨S16x128, broadcast S16x128 (Scalar.ofBits .bf16 0x0000#16)⟩, ⟨S16x128, broadcast S16x128 (Scalar.ofBits .bf16 0x0000#16)⟩]
    concatenates_S8x128_S8x128_S8x128_S8x128_S8x128_S8x128_S8x128_S8x128_S8x128_S8x128_S16x128_S16x128_S16x128_S128x128_d0

/-- The greatest score of each lane over the first three key rows. -/
def top3 (x : Fin 7 → FVec F S8x128 .f32) : FVec F S1x128 .f32 :=
  shapeCast S1x128 (multiReduction .maximumf [0] S128
    (maximumf (maximumf (x 0) (x 1)) (x 2))
    0xFF800000#32 reduces_S8x128_S128 (.inl rfl) rfl) shapeCasts_S128_S1x128

/-- The softmax weights of one tile that has three key rows. -/
def weights3 (row : Vec F S1x128 .i32) (x : Fin 7 → FVec F S8x128 .f32) : FVec F S128x128 .bf16 :=
  concatenate S128x128 0 [⟨S8x128, evens row (weight (x 0) (top3 x))⟩, ⟨S8x128, odds row (weight (x 0) (top3 x))⟩,
      ⟨S8x128, evens row (weight (x 1) (top3 x))⟩, ⟨S8x128, odds row (weight (x 1) (top3 x))⟩,
      ⟨S8x128, evens row (weight (x 2) (top3 x))⟩, ⟨S8x128, odds row (weight (x 2) (top3 x))⟩,
      ⟨S16x128, broadcast S16x128 (Scalar.ofBits .bf16 0x0000#16)⟩, ⟨S16x128, broadcast S16x128 (Scalar.ofBits .bf16 0x0000#16)⟩, ⟨S16x128, broadcast S16x128 (Scalar.ofBits .bf16 0x0000#16)⟩, ⟨S16x128, broadcast S16x128 (Scalar.ofBits .bf16 0x0000#16)⟩, ⟨S16x128, broadcast S16x128 (Scalar.ofBits .bf16 0x0000#16)⟩]
    concatenates_S8x128_S8x128_S8x128_S8x128_S8x128_S8x128_S16x128_S16x128_S16x128_S16x128_S16x128_S128x128_d0

/-- How many key rows a row of windows has: seven, or where the map's edge cuts it five or three. -/
inductive Extent where
  | full | five | three

/-- Their number. -/
def Extent.rows : Extent → ℕ
  | .full => 7
  | .five => 5
  | .three => 3

/-- The softmax weights of one tile. -/
def weightsOf : Extent → Vec F S1x128 .i32 → (Fin 7 → FVec F S8x128 .f32) → FVec F S128x128 .bf16
  | .full => weights
  | .five => weights5
  | .three => weights3

/-- The value product of a tile pair over three blocks of values, the row of ones giving the sums of the weights. -/
def mixed3 (v : Vec F S1x1x1x3x32x128 .bf16) (w : Fin 2 → FVec F S128x128 .bf16) : FVec F S112x256 .f32 :=
  matmul dot_S112x128_S128x256_S112x256_1_0_0_1_n_n none
    (concatenate S112x128 0 [⟨S96x128, shapeCast S96x128 (shapeCast S3x32x128 v shapeCasts_S1x1x1x3x32x128_S3x32x128) shapeCasts_S3x32x128_S96x128⟩,
        ⟨S16x128, broadcast S16x128 (Scalar.ofBits .bf16 0x3F80#16)⟩] concatenates_S96x128_S16x128_S112x128_d0)
    (concatenate S128x256 1 [⟨S128x128, w 0⟩, ⟨S128x128, w 1⟩] concatenates_S128x128_S128x128_S128x256_d1)
    (constant S112x256 .f32 0x00000000#32)

/-- The value product of a tile pair over four blocks of values. -/
def mixed4 (v : Vec F S1x1x1x4x32x128 .bf16) (w : Fin 2 → FVec F S128x128 .bf16) : FVec F S144x256 .f32 :=
  matmul dot_S144x128_S128x256_S144x256_1_0_0_1_n_n none
    (concatenate S144x128 0 [⟨S128x128, shapeCast S128x128 (shapeCast S4x32x128 v shapeCasts_S1x1x1x4x32x128_S4x32x128) shapeCasts_S4x32x128_S128x128⟩,
        ⟨S16x128, broadcast S16x128 (Scalar.ofBits .bf16 0x3F80#16)⟩] concatenates_S128x128_S16x128_S144x128_d0)
    (concatenate S128x256 1 [⟨S128x128, w 0⟩, ⟨S128x128, w 1⟩] concatenates_S128x128_S128x128_S128x256_d1)
    (constant S144x256 .f32 0x00000000#32)

/-- A tile's result from its columns of the value product: of the two window pairs' rows those of the lane's own pair, over
    the sum of the weights. -/
def result (s : FVec F S1x128 .f32) (lo hi : FVec F S32x128 .f32) (row : Vec F S1x128 .i32) : FVec F S1x1x1x1x32x128 .bf16 :=
  shapeCast S1x1x1x1x32x128 (truncf .bf16
    (mulf (select (broadcastTo S32x128 (shapeCast S1x128 (cmpi .ne row (broadcast S1x128 0#32)) shapeCasts_S1x128_S1x128)
          broadcasts_S1x128_S32x128) lo hi)
      (broadcastTo S32x128 (divf (broadcast S1x128 (Scalar.ofBits .f32 0x3F800000#32)) s) broadcasts_S1x128_S32x128))
    bitsLt_bf16_f32) shapeCasts_S32x128_S1x1x1x1x32x128

end Cert.KernelIdeal.Stages

end
-- ==== Proof.Body.lean ====
/- What one trip of the kernel's loop stores, and what the two rows of windows after it store, as the stages of Proof/Stages.lean at what it loads: the thirty-two
   stores of each, the eight tiles of each of the four heads, are one function of the head and the tile. -/
module

public import proofs.«01_k».proof.Proof.Stages
public import proofs.«01_k».proof.Proof.Gen.KernelIdeal.Frame

@[expose] public section

noncomputable section

namespace Cert.KernelIdeal.Body

open Cert.KernelIdeal Cert.KernelIdeal.Gen Cert.KernelIdeal.Stages Idealize.ShloMosaic Idealize.ShloMosaic.TcCoe

variable {F : FTy → Type} [FloatOps F] [Named F]

/-- What a row of windows loads: per head the blocks of key codes, the tiles' query codes, the window pairs' values from some pair on,
    the bias of a tile's key row and the two column scales; the rows of the table; and each tile's eight rows that mark the
    places of a key. -/
structure Loads (F : FTy → Type) where
  keys : Fin 4 → Fin 5 → Vec F S1x1x1x1x64x128 .bf16
  queries : Fin 4 → Fin 8 → Vec F S1x1x1x1x32x128 .bf16
  values3 : Fin 4 → Fin 8 → Vec F S1x1x1x3x32x128 .bf16
  values4 : Fin 4 → Fin 7 → Vec F S1x1x1x4x32x128 .bf16
  biases : Fin 4 → Fin 8 → Fin 7 → Vec F S1x1x1x8x128 .f32
  qs : Fin 4 → Vec F S1x1x1x8x128 .f32
  ks : Fin 4 → Vec F S1x1x1x8x128 .f32
  row : Fin 105 → Vec F S1x128 .i32
  held : Fin 8 → Vec F S8x128 .i32

/-- The table row that marks the lanes of a tile by a window slot of its pair, if the tile has queries of that window. -/
def slotRow : Fin 8 → Fin 8 → Option (Fin 105) :=
  ![![some 0, some 1, some 2, none, none, none, none, none],
    ![none, none, some 13, some 14, some 15, some 16, none, none],
    ![none, some 27, some 28, some 29, none, none, none, none],
    ![none, none, none, some 40, some 41, some 42, none, none],
    ![none, some 53, some 54, some 55, none, none, none, none],
    ![none, none, none, none, some 66, some 67, some 68, none],
    ![none, none, some 79, some 80, some 81, none, none, none],
    ![none, none, none, none, some 92, some 93, some 94, none]]

/-- The table row that marks a tile's lanes whose window is in the lower of the tile's two window pairs. -/
def lowerRow : Fin 8 → Fin 105 := ![3, 17, 30, 43, 56, 69, 82, 95]

/-- The table row that marks a tile's lanes of even windows. -/
def evenRow : Fin 8 → Fin 105 := ![4, 18, 31, 44, 57, 70, 83, 96]

/-- The tiles of a pair. -/
def tile (p : Fin 4) (e : Fin 2) : Fin 8 := ⟨2 * p.val + e.val, by omega⟩

variable (L : Loads F)

/-- The query codes of a tile in one window slot. -/
def codes (h : Fin 4) (t u : Fin 8) : FVec F S32x128 .fp8e4m3 :=
  match slotRow t u with
  | some r => picked (L.queries h t) (L.row r)
  | none => noCodes

/-- The score product of a tile pair. -/
def prod (h p : Fin 4) : FVec F S64x256 .f32 :=
  scores (L.keys h ⟨p.val, by omega⟩) (L.keys h ⟨p.val + 1, by omega⟩) fun e => codes L h (tile p e)

/-- A tile's scores of one key row. -/
def logit (h p : Fin 4) (e : Fin 2) (i : Fin 7) : FVec F S8x128 .f32 :=
  logits (Stages.held (L.held (tile p e)))
    (extractStridedSlice S1x128 ![(tile p e).val, 0] (scale (L.qs h) (L.ks h))
      ⟨rfl, by intro b; have := (tile p e).isLt; fin_cases b <;> simp <;> omega⟩)
    (extractStridedSlice S8x128 ![8 * i.val, 128 * e.val] (prod L h p)
      ⟨rfl, by intro b; fin_cases b <;> simp <;> omega⟩) (L.biases h (tile p e) i)

/-- A tile's softmax weights. -/
def weight (g : Extent) (h p : Fin 4) (e : Fin 2) : FVec F S128x128 .bf16 := weightsOf g (L.row (evenRow (tile p e))) (logit L h p e)

/-- The value product of a tile pair over the three window pairs from `n` on. -/
def mix3 (g : Extent) (h p : Fin 4) (n : Fin 8) : FVec F S112x256 .f32 := mixed3 (L.values3 h n) (weight L g h p)

/-- The value product of a tile pair over the four window pairs from `n` on. -/
def mix4 (g : Extent) (h p : Fin 4) (n : Fin 7) : FVec F S144x256 .f32 := mixed4 (L.values4 h n) (weight L g h p)

/-- What is stored for a tile, its pair's value product being over three window pairs from `n` on and its own first one the
    one numbered `f` of those. -/
def out3 (g : Extent) (h p : Fin 4) (e : Fin 2) (n : Fin 8) (f : Fin 2) : FVec F S1x1x1x1x32x128 .bf16 :=
  have o := extractStridedSlice S112x128 ![0, 128 * e.val] (mix3 L g h p n) ⟨rfl, by intro b; fin_cases b <;> simp <;> omega⟩
  result (extractStridedSlice S1x128 ![96, 0] o slices_S112x128_o96_0_S1x128)
    (extractStridedSlice S32x128 ![32 * f.val, 0] o ⟨rfl, by intro b; fin_cases b <;> simp <;> omega⟩)
    (extractStridedSlice S32x128 ![32 * f.val + 32, 0] o ⟨rfl, by intro b; fin_cases b <;> simp <;> omega⟩)
    (L.row (lowerRow (tile p e)))

/-- What is stored for a tile, its pair's value product being over four window pairs from `n` on. -/
def out4 (g : Extent) (h p : Fin 4) (e : Fin 2) (n : Fin 7) (f : Fin 3) : FVec F S1x1x1x1x32x128 .bf16 :=
  have o := extractStridedSlice S144x128 ![0, 128 * e.val] (mix4 L g h p n) ⟨rfl, by intro b; fin_cases b <;> simp <;> omega⟩
  result (extractStridedSlice S1x128 ![128, 0] o slices_S144x128_o128_0_S1x128)
    (extractStridedSlice S32x128 ![32 * f.val, 0] o ⟨rfl, by intro b; fin_cases b <;> simp <;> omega⟩)
    (extractStridedSlice S32x128 ![32 * f.val + 32, 0] o ⟨rfl, by intro b; fin_cases b <;> simp <;> omega⟩)
    (L.row (lowerRow (tile p e)))

/-- The row of windows that a trip takes, as the loads compute it. -/
def wh (k : Fin k0_t1_loop.trips) : ℕ :=
  (Scalar.indexCast (Scalar.addi (0#32) (Scalar.muli (Scf.iv (0#32) (1#32) k) (1#32))) : Index).toNat

/-- It is the trip's number. -/
theorem wh_eq : ∀ k : Fin k0_t1_loop.trips, wh k = k.val := by
  decide +kernel

/-- It is one of eight. -/
theorem wh_lt (k : Fin k0_t1_loop.trips) : wh k < 8 := by
  rw [wh_eq]
  exact k.isLt

/-- And so one of ten. -/
theorem wh_lt' (k : Fin k0_t1_loop.trips) : wh k < 10 := (wh_lt k).trans (by decide)

variable (a2 : Memref sig .tc .vmem S1x4x10x5x64x128 .bf16) (a3 : Memref sig .tc .vmem S1x4x10x8x32x128 .bf16)
  (a4 : Memref sig .tc .vmem S1x4x10x10x32x128 .bf16) (a5 : Memref sig .tc .vmem S4x8x7x8x128 .f32)
  (a6 a7 : Memref sig .tc .vmem S1x4x10x8x128 .f32) (a8 : Memref sig .tc .vmem S105x128 .i32)

/-- The loads of row of windows `w` from the operands' contents. -/
def loads (v : Fin 8 → Vec F S8x128 .i32) (X2 : BufTy.Contents (Elt F) a2.view.ty) (X3 : BufTy.Contents (Elt F) a3.view.ty)
    (X4 : BufTy.Contents (Elt F) a4.view.ty) (X5 : BufTy.Contents (Elt F) a5.view.ty) (X6 : BufTy.Contents (Elt F) a6.view.ty)
    (X7 : BufTy.Contents (Elt F) a7.view.ty) (X8 : BufTy.Contents (Elt F) a8.view.ty) (w : ℕ) (hw : w < 10) : Loads F where
  keys h p := View.readAt (Elt F) a2.view (Rect.unit (s := S1x4x10x5x64x128) ![0, h.val, w, p.val, 0, 0] S1x1x1x1x64x128.size (by
    intro b; fin_cases b <;> simp <;> omega)).toLoadRect X2
  queries h t := View.readAt (Elt F) a3.view (Rect.unit (s := S1x4x10x8x32x128) ![0, h.val, w, t.val, 0, 0] S1x1x1x1x32x128.size (by
    intro b; fin_cases b <;> simp <;> omega)).toLoadRect X3
  values3 h n := View.readAt (Elt F) a4.view (Rect.unit (s := S1x4x10x10x32x128) ![0, h.val, w, n.val, 0, 0] S1x1x1x3x32x128.size (by
    intro b; fin_cases b <;> simp <;> omega)).toLoadRect X4
  values4 h n := View.readAt (Elt F) a4.view (Rect.unit (s := S1x4x10x10x32x128) ![0, h.val, w, n.val, 0, 0] S1x1x1x4x32x128.size (by
    intro b; fin_cases b <;> simp <;> omega)).toLoadRect X4
  biases h t i := View.readAt (Elt F) a5.view (Rect.unit (s := S4x8x7x8x128) ![h.val, t.val, i.val, 0, 0] S1x1x1x8x128.size (by
    intro b; fin_cases b <;> simp <;> omega)).toLoadRect X5
  qs h := View.readAt (Elt F) a6.view (Rect.unit (s := S1x4x10x8x128) ![0, h.val, w, 0, 0] S1x1x1x8x128.size (by
    intro b; fin_cases b <;> simp <;> omega)).toLoadRect X6
  ks h := View.readAt (Elt F) a7.view (Rect.unit (s := S1x4x10x8x128) ![0, h.val, w, 0, 0] S1x1x1x8x128.size (by
    intro b; fin_cases b <;> simp <;> omega)).toLoadRect X7
  row r := View.readAt (Elt F) a8.view (Rect.unit (s := S105x128) ![r.val, 0] S1x128.size (by
    intro b; fin_cases b <;> simp <;> omega)).toLoadRect X8
  held := v

/-- The place of a tile in the output block. -/
def place (w : ℕ) (hw : w < 10) (h : Fin 4) (t : Fin 8) : Rect S1x4x10x8x32x128 :=
  Rect.unit (s := S1x4x10x8x32x128) ![0, h.val, w, t.val, 0, 0] S1x1x1x1x32x128.size (by
    intro b; fin_cases b <;> simp <;> omega)

/-- The pieces that a row of windows stores for one head, last first. -/
def pieces (g : Extent) (w : ℕ) (hw : w < 10) (h : Fin 4) : List (View.Piece (Elt F) S1x4x10x8x32x128 .bf16) :=
  [⟨place w hw h 7, out3 L g h 3 1 7 1⟩, ⟨place w hw h 6, out3 L g h 3 0 7 0⟩, ⟨place w hw h 5, out4 L g h 2 1 4 2⟩, ⟨place w hw h 4, out4 L g h 2 0 4 0⟩,
   ⟨place w hw h 3, out3 L g h 1 1 2 1⟩, ⟨place w hw h 2, out3 L g h 1 0 2 0⟩, ⟨place w hw h 1, out3 L g h 0 1 0 1⟩, ⟨place w hw h 0, out3 L g h 0 0 0 0⟩]

/-- The pieces that a row of windows stores. -/
def row (g : Extent) (w : ℕ) (hw : w < 10) : List (View.Piece (Elt F) S1x4x10x8x32x128 .bf16) :=
  pieces L g w hw 3 ++ (pieces L g w hw 2 ++ (pieces L g w hw 1 ++ pieces L g w hw 0))

end Cert.KernelIdeal.Body

end
-- ==== Proof.Consts.lean ====
/- The float constants of the programs as the extended reals their patterns denote. -/
module

public import Idealize.ShloMosaic.PureOps.Ideal

@[expose] public section

noncomputable section

namespace Cert.Consts

open Idealize.ShloMosaic

/-- The pattern of minus infinity denotes the least value. -/
theorem ofBits_bot : Ideal.ofBits .f32 0xFF800000#32 = ⊥ := by simp [Ideal.ofBits, Ideal.ieee]

/-- `32.0` denotes the number 32. -/
theorem ofBits_32 : Ideal.ofBits .f32 0x42000000#32 = ((32 : ℝ) : EReal) := by
  simp [Ideal.ofBits, Ideal.ieee, -EReal.coe_mul]; norm_num

/-- The zero code denotes zero. -/
theorem ofBits_zero_code : Ideal.ofBits .fp8e4m3 0x00#8 = 0 := by simp [Ideal.ofBits, Ideal.e4m3fn]

end Cert.Consts

end
-- ==== Proof.Soft.lean ====
/- The softmax algebra on the extended reals that the value proof rests on: a softmax of scores multiplied by `1 / log 2` and
   raised as powers of two is the softmax of the scores themselves. -/
module

public import proofs.«01_k».proof.Proof.Consts
public import Idealize.ShloMosaic.PureOps.Ideal
public import Idealize.ShloMosaic.Lib.IdealHost

@[expose] public section

noncomputable section

namespace Cert.Soft

open Idealize.ShloMosaic

/-- The change of base from `e` to two, `1 / log 2`. -/
def base : ℝ := (Real.log 2)⁻¹

/-- The change of base is positive. -/
theorem base_pos : 0 < base := inv_pos.mpr (Real.log_pos (by norm_num))

/-- Multiplying by the change of base distributes over a sum of any two extended reals. -/
theorem base_mul_add (x y : EReal) : (base : EReal) * (x + y) = base * x + base * y :=
  EReal.left_distrib_of_nonneg_of_ne_top (by exact_mod_cast base_pos.le) (EReal.coe_ne_top _) x y

/-- Multiplying by the change of base takes `⊥` to `⊥`. -/
theorem base_mul_bot : (base : EReal) * ⊥ = ⊥ := EReal.coe_mul_bot_of_pos base_pos

/-- Multiplying by the change of base is monotone. -/
theorem base_mono : Monotone fun x : EReal => (base : EReal) * x := fun x y h =>
  mul_le_mul_of_nonneg_left h (by exact_mod_cast base_pos.le)

/-- Two to a difference of rescaled scores is `e` to the difference of the scores. -/
theorem exp2_base (x m : EReal) : Ideal.exp2 (base * x - base * m) = Ideal.exp (x - m) := by
  have h : (base : EReal) * x - base * m = base * (x - m) := by
    rw [sub_eq_add_neg, sub_eq_add_neg, base_mul_add, mul_neg]
  rw [h]
  induction x - m using EReal.rec with
  | bot => rw [base_mul_bot]; rfl
  | top => rw [EReal.coe_mul_top_of_pos base_pos]; rfl
  | coe r =>
    rw [← EReal.coe_mul, Ideal.exp2_coe, Ideal.exp_coe]
    congr 1
    show (2 : ℝ) ^ (base * r) = _
    rw [Real.rpow_def_of_pos (by norm_num), base, ← mul_assoc, mul_inv_cancel₀ (Real.log_pos (by norm_num)).ne', one_mul]

/-- The greatest of the scores of a window: seven rows of eight places. -/
def peak (y : Fin 7 → Fin 8 → EReal) : EReal := Finset.univ.sup fun p : Fin 7 × Fin 8 => y p.1 p.2

/-- One attention output: the values weighted by `e` to the score less the greatest score, over the sum of the weights. -/
def att (y v : Fin 7 → Fin 8 → EReal) : EReal :=
  (∑ i, ∑ j, Ideal.exp (y i j - peak y) * v i j) * Ideal.div 1 (∑ i, ∑ j, Ideal.exp (y i j - peak y))

/-- The greatest of the rescaled scores is the greatest score, rescaled. -/
theorem peak_base (y : Fin 7 → Fin 8 → EReal) : (peak fun i j => base * y i j) = base * peak y :=
  (Finset.comp_sup_eq_sup_comp_of_is_total (fun x : EReal => (base : EReal) * x) base_mono base_mul_bot).symm

/-- The attention output by powers of two of rescaled scores. -/
def att2 (x v : Fin 7 → Fin 8 → EReal) : EReal :=
  (∑ i, ∑ j, v i j * Ideal.exp2 (x i j - peak x)) * Ideal.div 1 (∑ i, ∑ j, Ideal.exp2 (x i j - peak x))

/-- By powers of two of the rescaled scores the attention output is the same. -/
theorem att2_base (y v : Fin 7 → Fin 8 → EReal) : att2 (fun i j => base * y i j) v = att y v := by
  unfold att2 att
  simp only [peak_base, exp2_base]
  congr 1
  exact Finset.sum_congr rfl fun i _ => Finset.sum_congr rfl fun j _ => mul_comm _ _

/-- A score as the kernel rescales it, bias and mask included, is the reference's score rescaled. -/
theorem score_base (s a b : EReal) (ok : Prop) [Decidable ok] :
    s * (a * (((Real.sqrt 32)⁻¹ * (Real.log 2)⁻¹ : ℝ) : EReal)) + (if ok then b * ((Real.log 2)⁻¹ : ℝ) else ⊥)
      = base * (if ok then s * Ideal.div a (Real.sqrt 32 : ℝ) + b else ⊥) := by
  split
  · rw [Ideal.div_coe (Real.sqrt_pos.mpr (by norm_num)).ne', one_div, base_mul_add, EReal.coe_mul]
    unfold base
    congr 1
    · ac_rfl
    · exact mul_comm _ _
  · rw [base_mul_bot, EReal.add_bot]

/-- The square root of 32. -/
theorem sqrt_32 : Ideal.sqrt (Ideal.ofBits .f32 0x42000000#32) = ((Real.sqrt 32 : ℝ) : EReal) := by
  rw [Consts.ofBits_32, Ideal.sqrt_coe, if_neg (by norm_num)]

/-- The exponential of the least value. -/
theorem exp_bot : Ideal.exp ⊥ = 0 := rfl

/-- The exponential is not negative. -/
theorem exp_nonneg (x : EReal) : 0 ≤ Ideal.exp x := by
  induction x using EReal.rec with
  | bot => exact le_rfl
  | top => exact le_top
  | coe r => rw [Ideal.exp_coe]; exact_mod_cast (Real.exp_pos r).le

/-- The reciprocal of what is not negative is not negative. -/
theorem recip_nonneg {x : EReal} (h : 0 ≤ x) : 0 ≤ Ideal.div 1 x := by
  unfold Ideal.div
  split
  · simp
  · simpa using EReal.inv_nonneg_of_nonneg h

/-- The reciprocal is infinite at zero only, of what is not negative. -/
theorem recip_eq_top {x : EReal} (h : 0 ≤ x) (ht : Ideal.div 1 x = ⊤) : x = 0 := by
  by_contra hx
  unfold Ideal.div at ht
  rw [if_neg hx, one_mul] at ht
  induction x using EReal.rec with
  | bot => simp at h
  | top => simp at ht
  | coe r => rw [← EReal.coe_inv] at ht; exact EReal.coe_ne_top _ ht

/-- A factor that is not negative and not infinite comes out of a sum. -/
theorem sum_mul {ι : Type} (s : Finset ι) (f : ι → EReal) {r : EReal} (h : 0 ≤ r) (ht : r ≠ ⊤) :
    ∑ i ∈ s, f i * r = (∑ i ∈ s, f i) * r := by
  classical
  induction s using Finset.induction_on with
  | empty => simp
  | insert a s ha ih => rw [Finset.sum_insert ha, Finset.sum_insert ha, ih, EReal.right_distrib_of_nonneg_of_ne_top h ht]

/-- Scaling every weight by the reciprocal of their sum, or the weighted sum: it is the same. -/
theorem scaled {ι : Type} [Fintype ι] (e v : ι → EReal) (he : ∀ i, 0 ≤ e i) :
    ∑ i, v i * (e i * Ideal.div 1 (∑ i, e i)) = (∑ i, v i * e i) * Ideal.div 1 (∑ i, e i) := by
  have hs : 0 ≤ ∑ i, e i := Finset.sum_nonneg fun i _ => he i
  by_cases ht : Ideal.div 1 (∑ i, e i) = ⊤
  · have h0 := recip_eq_top hs ht
    have hz (i : ι) : e i = 0 := (Finset.sum_eq_zero_iff_of_nonneg fun i _ => he i).mp h0 i (Finset.mem_univ i)
    simp [hz]
  · rw [← sum_mul _ _ (recip_nonneg hs) ht]
    exact Finset.sum_congr rfl fun i _ => (mul_assoc _ _ _).symm

end Cert.Soft

end
-- ==== Proof.Spec.lean ====
/- One head's attention along one window row, in plain terms: every query column attends the keys of the one window of seven
   columns that it lies in. -/
module

public import proofs.«01_k».proof.Proof.Soft

@[expose] public section

noncomputable section

namespace Cert.Spec

open Idealize.ShloMosaic

/-- The window of the query in lane `l` of tile `t`: its column is `16 t + l % 16`, and a window starts at every column
    `7 w - 4`. -/
def win (t : Fin 8) (l : Fin 128) : Fin 20 := ⟨(16 * t.val + l.val % 16 + 4) / 7, by omega⟩

/-- Whether place `j` of a key row holds a key of the query's window: it is one of the window's seven places, not left of
    the first column and not right of the last. -/
def ok (t : Fin 8) (l : Fin 128) (j : Fin 8) : Prop := j.val < 7 ∧ 4 ≤ 7 * (win t l).val + j.val ∧ 7 * (win t l).val + j.val < 132

instance (t : Fin 8) (l : Fin 128) (j : Fin 8) : Decidable (ok t l j) := inferInstanceAs (Decidable (_ ∧ _ ∧ _))

/-- The key rows of a row of windows: seven, but five in the ninth and three in the tenth, which the map's edge cuts. -/
def rows (w : Fin 10) : ℕ := if w = 9 then 3 else if w = 8 then 5 else 7

variable (n : ℕ) (K : Fin 5 → Fin 64 → Fin 128 → EReal) (Q : Fin 8 → Fin 32 → Fin 128 → EReal) (V : Fin 10 → Fin 32 → Fin 128 → EReal)
  (B : Fin 8 → Fin 7 → Fin 8 → Fin 128 → EReal) (qs ks : Fin 8 → Fin 128 → EReal)

/-- The product of the query's codes with the key's at place `(i, j)` of the query's window. -/
def dot (t : Fin 8) (l : Fin 128) (i : Fin 7) (j : Fin 8) : EReal :=
  ∑ d : Fin 32, K ⟨(win t l).val / 4, by omega⟩ ⟨8 * i.val + j.val, by omega⟩ ⟨32 * ((win t l).val % 4) + d.val, by omega⟩ * Q t d l

/-- The score: the product rescaled, with the bias, where there is a key, `n` being the number of key rows. -/
def score (t : Fin 8) (l : Fin 128) (i : Fin 7) (j : Fin 8) : EReal :=
  if ok t l j ∧ i.val < n then dot K Q t l i j * Ideal.div (qs t l * ks t l) (Real.sqrt 32 : ℝ) + B t i j l else ⊥

/-- Component `d` of the value at place `(i, j)` of the query's window. -/
def value (t : Fin 8) (l : Fin 128) (d : Fin 32) (i : Fin 7) (j : Fin 8) : EReal :=
  V ⟨(win t l).val / 2, by omega⟩ d ⟨16 * i.val + 8 * ((win t l).val % 2) + j.val, by omega⟩

/-- Component `d` of the attention of the query in lane `l` of tile `t`. -/
def out (t : Fin 8) (d : Fin 32) (l : Fin 128) : EReal := Soft.att (score n K Q B qs ks t l) (value V t l d)

end Cert.Spec

end
-- ==== Proof.Table.lean ====
/- What the table of lane masks marks. -/
module

public import proofs.«01_k».proof.Proof.Body
public import proofs.«01_k».proof.Proof.Spec
public import Idealize.ShloMosaic.Lib.Pointwise
public import Idealize.ShloMosaic.Lib.ValueIdxRank6

@[expose] public section

set_option maxRecDepth 16384

noncomputable section

namespace Cert.KernelIdeal.Body

open Cert.KernelIdeal Cert.KernelIdeal.Gen Idealize.ShloMosaic

/-- Lane `l` of row `r` of the table of lane masks. -/
def word (r : Fin 105) (l : Fin 128) : BitVec 32 := lit0 (S105x128.rowMajor (ix2 r l))

/-- The lower of a tile's two window pairs. -/
def lower : Fin 8 → ℕ := ![0, 1, 2, 3, 4, 6, 7, 8]

/-- The first of a tile's eight table rows that mark the places of a key. -/
def heldRow : Fin 8 → Fin 98 := ![5, 19, 32, 45, 58, 71, 84, 97]

/-- A tile's row of a window slot marks the lanes whose window is the slot's. -/
theorem table_slot : ∀ (t u : Fin 8) (l : Fin 128),
    (slotRow t u).all (fun r => decide (word r l ≠ 0#32 ↔ (Spec.win t l).val = 4 * (t.val / 2) + u.val)) = true := by
  decide +kernel

/-- A tile has a row for each slot that holds a window of one of its lanes. -/
theorem table_none : ∀ (t u : Fin 8) (l : Fin 128), (slotRow t u).isNone = true → (Spec.win t l).val ≠ 4 * (t.val / 2) + u.val := by
  decide +kernel

/-- The windows of a tile's lanes are among the eight slots of its pair. -/
theorem win_slot : ∀ (t : Fin 8) (l : Fin 128), 4 * (t.val / 2) ≤ (Spec.win t l).val ∧ (Spec.win t l).val < 4 * (t.val / 2) + 8 := by
  decide +kernel

/-- The windows of a tile's lanes are of the tile's two window pairs. -/
theorem win_pair : ∀ (t : Fin 8) (l : Fin 128), (Spec.win t l).val / 2 = lower t ∨ (Spec.win t l).val / 2 = lower t + 1 := by
  decide +kernel

/-- The rows that mark the lanes whose window is in the lower pair. -/
theorem table_lower : ∀ (t : Fin 8) (l : Fin 128), word (lowerRow t) l ≠ 0#32 ↔ (Spec.win t l).val / 2 = lower t := by
  decide +kernel

/-- The rows that mark the lanes of even windows. -/
theorem table_even : ∀ (t : Fin 8) (l : Fin 128), word (evenRow t) l ≠ 0#32 ↔ (Spec.win t l).val % 2 = 0 := by
  decide +kernel

/-- The rows that mark the places that hold a key. -/
theorem table_held : ∀ (t j : Fin 8) (l : Fin 128), word ⟨(heldRow t).val + j.val, by omega⟩ l ≠ 0#32 ↔ Spec.ok t l j := by
  decide +kernel

end Cert.KernelIdeal.Body

end
-- ==== Proof.StageValue.lean ====
/- The values of the stages of Proof/Stages.lean on the extended reals, entry by entry. -/
module
public import proofs.«01_k».proof.Proof.Stages
public import proofs.«01_k».proof.Proof.Soft
public import Idealize.ShloMosaic.Lib.Pointwise
public import Idealize.ShloMosaic.Lib.ValueIdxRank6
@[expose] public section
noncomputable section
namespace Cert.KernelIdeal.Stages
open Cert.KernelIdeal Cert.KernelIdeal.Gen Idealize.ShloMosaic
set_option maxRecDepth 16384

/-- A tile's codes in the spread: in the tile's columns the rows of slot `u` are its codes of that slot. -/
theorem spread_apply (a : Fin 2 → Fin 8 → FVec Ideal S32x128 .fp8e4m3) (e : Fin 2) (u : Fin 8) (d : Fin 32) (l : Fin 128) :
    spread a (ix2 ⟨32 * u.val + d.val, by omega⟩ ⟨128 * e.val + l.val, by omega⟩) = a e u (ix2 d l) := by
  fin_cases e <;> fin_cases u <;> pointwise [spread, slot] <;> (simp (disch := omega) only [dif_pos, dif_neg]; try congr 2; try ext; try simp; try omega)

/-- The weights in the rows of an even window: the lane's own weights if its window is even. -/
theorem weights_even (row : Vec Ideal S1x128 .i32) (x : Fin 7 → FVec Ideal S8x128 .f32) (i : Fin 7) (j : Fin 8) (l : Fin 128) :
   weights row x (ix2 ⟨16 * i.val + j.val, by omega⟩ l) = Scalar.select (IntOp.cmpi CmpIPredicate.ne (row (ix2 0 l)) 0#32) (weight (x i) (top x) (ix2 j l)) 0 := by
  fin_cases i <;> pointwise [weights, evens, odds, even] <;> (simp (disch := omega) only [dif_pos, dif_neg]; try congr 3; try ext; try simp; try omega)

/-- The weights in the rows of an odd window. -/
theorem weights_odd (row : Vec Ideal S1x128 .i32) (x : Fin 7 → FVec Ideal S8x128 .f32) (i : Fin 7) (j : Fin 8) (l : Fin 128) :
   weights row x (ix2 ⟨16 * i.val + 8 + j.val, by omega⟩ l) = Scalar.select (IntOp.cmpi CmpIPredicate.ne (row (ix2 0 l)) 0#32) 0 (weight (x i) (top x) (ix2 j l)) := by
  fin_cases i <;> pointwise [weights, evens, odds, even] <;> (simp (disch := omega) only [dif_pos, dif_neg]; try congr 3; try ext; try simp; try omega)

/-- The weights in the padding rows are zero. -/
theorem weights_pad (row : Vec Ideal S1x128 .i32) (x : Fin 7 → FVec Ideal S8x128 .f32) (j : Fin 16) (l : Fin 128) :
   weights row x (ix2 ⟨112 + j.val, by omega⟩ l) = 0 := by
  pointwise [weights, evens, odds, even] <;> (simp (disch := omega) only [dif_pos, dif_neg])

/-- A sum over 128 rows by key row, parity and place. -/
theorem sum_rows (f : Fin 128 → EReal) : ∑ r, f r = ∑ i : Fin 8, ((∑ j : Fin 8, f ⟨16 * i.val + j.val, by omega⟩) + ∑ j : Fin 8, f ⟨16 * i.val + 8 + j.val, by omega⟩) := by
  rw [← (finProdFinEquiv (m := 8) (n := 16)).sum_comp, Fintype.sum_prod_type]
  refine Finset.sum_congr rfl fun i _ => ?_
  rw [show (∑ y : Fin 16, f (finProdFinEquiv (i, y))) = _ from Fin.sum_univ_add (a := 8) (b := 8) _]
  congr 1 <;> refine Finset.sum_congr rfl fun j _ => ?_ <;> congr 1 <;> ext <;> simp [finProdFinEquiv] <;> omega

/-- A sum over 256 rows by window slot. -/
theorem sum_slots (f : Fin 256 → EReal) : ∑ r, f r = ∑ u : Fin 8, ∑ d : Fin 32, f ⟨32 * u.val + d.val, by omega⟩ := by
  rw [← (finProdFinEquiv (m := 8) (n := 32)).sum_comp, Fintype.sum_prod_type]
  refine Finset.sum_congr rfl fun i _ => Finset.sum_congr rfl fun j _ => ?_
  congr 1; ext; simp [finProdFinEquiv]; omega

/-- The greatest score of a lane. -/
theorem top_apply (x : Fin 7 → FVec Ideal S8x128 .f32) (l : Fin 128) :
    top x (ix2 0 l) = Soft.peak fun i j => x i (ix2 j l) := by
  pointwise [top]
  rw [Consts.ofBits_bot]
  unfold Soft.peak
  apply le_antisymm
  · rw [Finset.fold_max_le]
    refine ⟨bot_le, fun j _ => ?_⟩
    have h : ∀ i, x i (ix2 j l) ≤ Finset.univ.sup fun p : Fin 7 × Fin 8 => x p.1 (ix2 p.2 l) := fun i =>
      Finset.le_sup (f := fun p : Fin 7 × Fin 8 => x p.1 (ix2 p.2 l)) (Finset.mem_univ (i, j))
    simp only [max_le_iff, h, and_self]
  · refine Finset.sup_le fun p _ => ?_
    rw [Finset.le_fold_max]
    refine .inr ⟨p.2, Finset.mem_univ _, ?_⟩
    obtain ⟨i, j⟩ := p
    fin_cases i <;> simp

/-- A weight is the power of two of the score less the greatest. -/
theorem weight_apply (x : FVec Ideal S8x128 .f32) (t : FVec Ideal S1x128 .f32) (j : Fin 8) (l : Fin 128) :
    weight x t (ix2 j l) = Ideal.exp2 (x (ix2 j l) - t (ix2 0 l)) := by
  pointwise [weight]
  rfl

/-- The value product over three window pairs in a tile's columns. -/
theorem mixed3_apply (v : Vec Ideal S1x1x1x3x32x128 .bf16) (w : Fin 2 → FVec Ideal S128x128 .bf16) (e : Fin 2) (n : Fin 3) (d : Fin 32) (l : Fin 128) :
    mixed3 v w (ix2 ⟨32 * n.val + d.val, by omega⟩ ⟨128 * e.val + l.val, by omega⟩) = ∑ r, v (ix6 0 0 0 n d r) * w e (ix2 r l) := by
  fin_cases e <;> pointwise [mixed3]
  all_goals (try simp (disch := omega) only [dif_pos, dif_neg])

/-- The row of ones in a tile's columns sums the weights. -/
theorem mixed3_one (v : Vec Ideal S1x1x1x3x32x128 .bf16) (w : Fin 2 → FVec Ideal S128x128 .bf16) (e : Fin 2) (l : Fin 128) :
    mixed3 v w (ix2 96 ⟨128 * e.val + l.val, by omega⟩) = ∑ r, w e (ix2 r l) := by
  fin_cases e <;> pointwise [mixed3]
  all_goals (try simp (disch := omega) only [dif_pos, dif_neg])

/-- The value product over four window pairs in a tile's columns. -/
theorem mixed4_apply (v : Vec Ideal S1x1x1x4x32x128 .bf16) (w : Fin 2 → FVec Ideal S128x128 .bf16) (e : Fin 2) (n : Fin 4) (d : Fin 32) (l : Fin 128) :
    mixed4 v w (ix2 ⟨32 * n.val + d.val, by omega⟩ ⟨128 * e.val + l.val, by omega⟩) = ∑ r, v (ix6 0 0 0 n d r) * w e (ix2 r l) := by
  fin_cases e <;> pointwise [mixed4]
  all_goals (try simp (disch := omega) only [dif_pos, dif_neg])

/-- The row of ones in a tile's columns sums the weights. -/
theorem mixed4_one (v : Vec Ideal S1x1x1x4x32x128 .bf16) (w : Fin 2 → FVec Ideal S128x128 .bf16) (e : Fin 2) (l : Fin 128) :
    mixed4 v w (ix2 128 ⟨128 * e.val + l.val, by omega⟩) = ∑ r, w e (ix2 r l) := by
  fin_cases e <;> pointwise [mixed4]
  all_goals (try simp (disch := omega) only [dif_pos, dif_neg])

/-- The score product, entry by entry. -/
theorem scores_apply (k0 k1 : Vec Ideal S1x1x1x1x64x128 .bf16) (a : Fin 2 → Fin 8 → FVec Ideal S32x128 .fp8e4m3) (r : Fin 64) (l : Fin 256) :
    scores k0 k1 a (ix2 r l) = ∑ k : Fin 256, (if h : k.val < 128 then k0 (ix6 0 0 0 0 r ⟨k.val, h⟩) else k1 (ix6 0 0 0 0 r ⟨k.val - 128, by omega⟩)) * spread a (ix2 k l) := by
  pointwise [scores]

/-- A word that is not zero selects the first of two values. -/
theorem select_ne {α : Type} (w : BitVec 32) (a b : α) :
    Scalar.select (IntOp.cmpi CmpIPredicate.ne w 0#32) a b = if w ≠ 0#32 then a else b := by
  by_cases h : w = 0#32
  · simp [Scalar.select, IntOp.cmpi, h]
  · have h' : (w != 0#32) = true := by simpa using h
    simp [Scalar.select, IntOp.cmpi, h, h']

/-- The key code of window slot `w`, place `r` and component `d` in two blocks of key codes. -/
def key (k0 k1 : Vec Ideal S1x1x1x1x64x128 .bf16) (r : Fin 64) (w : Fin 8) (d : Fin 32) : EReal :=
  if h : w.val < 4 then k0 (ix6 0 0 0 0 r ⟨32 * w.val + d.val, by omega⟩) else k1 (ix6 0 0 0 0 r ⟨32 * w.val + d.val - 128, by omega⟩)

/-- A score: a lane whose codes are all in slot `w` gets the product with the keys of that window. -/
theorem scores_slot (k0 k1 : Vec Ideal S1x1x1x1x64x128 .bf16) (a : Fin 2 → Fin 8 → FVec Ideal S32x128 .fp8e4m3) (e : Fin 2) (r : Fin 64)
    (l : Fin 128) (w : Fin 8) (q : Fin 32 → EReal) (hq : ∀ u d, a e u (ix2 d l) = if u = w then q d else 0) :
    scores k0 k1 a (ix2 r ⟨128 * e.val + l.val, by omega⟩) = ∑ d, key k0 k1 r w d * q d := by
  rw [scores_apply, sum_slots, Finset.sum_eq_single w]
  · refine Finset.sum_congr rfl fun d _ => ?_
    rw [spread_apply, hq, if_pos rfl, key]
    congr 1
    by_cases h : w.val < 4
    · rw [dif_pos (by simp; omega), dif_pos h]
    · rw [dif_neg (by simp; omega), dif_neg h]
  · intro u _ hu
    refine Finset.sum_eq_zero fun d _ => ?_
    rw [spread_apply, hq, if_neg hu, mul_zero]
  · exact fun h => (h (Finset.mem_univ _)).elim

/-- A row of the value product: against the weights of a lane whose window has parity `par`, only that window's places count. -/
theorem weights_mul (row : Vec Ideal S1x128 .i32) (x : Fin 7 → FVec Ideal S8x128 .f32) (l : Fin 128) (v : Fin 128 → EReal)
    (par : Fin 2) (hp : row (ix2 0 l) ≠ 0#32 ↔ par = 0) :
    ∑ r, v r * weights row x (ix2 r l) = ∑ i : Fin 7, ∑ j : Fin 8, v ⟨16 * i.val + 8 * par.val + j.val, by omega⟩ *
      Ideal.exp2 (x i (ix2 j l) - Soft.peak fun i j => x i (ix2 j l)) := by
  rw [sum_rows, Fin.sum_univ_castSucc]
  have hlast : ((∑ j : Fin 8, v ⟨16 * (Fin.last 7).val + j.val, by simp; omega⟩ * weights row x (ix2 ⟨16 * (Fin.last 7).val + j.val, by simp; omega⟩ l)) +
      ∑ j : Fin 8, v ⟨16 * (Fin.last 7).val + 8 + j.val, by simp; omega⟩ * weights row x (ix2 ⟨16 * (Fin.last 7).val + 8 + j.val, by simp; omega⟩ l)) = 0 := by
    rw [Finset.sum_eq_zero, Finset.sum_eq_zero, add_zero]
    · intro j _
      rw [show (⟨16 * (Fin.last 7).val + 8 + j.val, by simp; omega⟩ : Fin 128) = ⟨112 + (⟨8 + j.val, by omega⟩ : Fin 16).val, by simp; omega⟩ by
        ext; simp; omega, weights_pad, mul_zero]
    · intro j _
      rw [show (⟨16 * (Fin.last 7).val + j.val, by simp; omega⟩ : Fin 128) = ⟨112 + (⟨j.val, by omega⟩ : Fin 16).val, by simp; omega⟩ by
        ext; simp, weights_pad, mul_zero]
  rw [hlast, add_zero]
  refine Finset.sum_congr rfl fun i _ => ?_
  have he (j : Fin 8) := weights_even row x i j l
  have ho (j : Fin 8) := weights_odd row x i j l
  simp only [select_ne, weight_apply, top_apply] at he ho
  simp only [Fin.val_castSucc, he, ho]
  by_cases h : par = 0
  · subst h
    simp [hp.mpr rfl]
  · have hp' : row (ix2 0 l) = 0#32 := by by_contra h'; exact h (hp.mp h')
    obtain rfl : par = 1 := by omega
    simp [hp']

/-- A sum of the weights of a lane. -/
theorem weights_sum (row : Vec Ideal S1x128 .i32) (x : Fin 7 → FVec Ideal S8x128 .f32) (l : Fin 128)
    (par : Fin 2) (hp : row (ix2 0 l) ≠ 0#32 ↔ par = 0) :
    ∑ r, weights row x (ix2 r l) = ∑ i : Fin 7, ∑ j : Fin 8,
      Ideal.exp2 (x i (ix2 j l) - Soft.peak fun i j => x i (ix2 j l)) := by
  simpa using weights_mul row x l (fun _ => 1) par hp

/-- A picked code. -/
theorem picked_apply (q : Vec Ideal S1x1x1x1x32x128 .bf16) (row : Vec Ideal S1x128 .i32) (d : Fin 32) (l : Fin 128) :
    picked q row (ix2 d l) = if row (ix2 0 l) ≠ 0#32 then q (ix6 0 0 0 0 d l) else 0 := by
  rw [← select_ne]
  pointwise [picked, noCodes]
  rw [Consts.ofBits_zero_code]

/-- No code. -/
theorem noCodes_apply (d : Fin 32) (l : Fin 128) : noCodes (F := Ideal) (ix2 d l) = 0 := by
  pointwise [noCodes]
  exact Consts.ofBits_zero_code

/-- The scale of a column. -/
theorem scale_apply (qs ks : Vec Ideal S1x1x1x8x128 .f32) (t : Fin 8) (l : Fin 128) :
    scale qs ks (ix2 t l) = qs (ix5 0 0 0 t l) * ks (ix5 0 0 0 t l) * (((Real.sqrt 32)⁻¹ * (Real.log 2)⁻¹ : ℝ) : EReal) := by
  pointwise [scale]
  rw [IdealRules.named_const.ideal_named_scalar _ _ _ _ rfl]

/-- A score with its bias. -/
theorem logits_apply (t : Vec Ideal S8x128 .i32) (c : FVec Ideal S1x128 .f32) (s : FVec Ideal S8x128 .f32)
    (b : Vec Ideal S1x1x1x8x128 .f32) (j : Fin 8) (l : Fin 128) :
    logits (held t) c s b (ix2 j l) = s (ix2 j l) * c (ix2 0 l) +
      if t (ix2 j l) ≠ 0#32 then b (ix5 0 0 0 j l) * (((Real.log 2)⁻¹ : ℝ) : EReal) else ⊥ := by
  rw [← select_ne]
  pointwise [logits, held]
  rw [IdealRules.named_const.ideal_named_scalar _ _ _ _ rfl, IdealRules.named_const.ideal_named_scalar _ _ _ _ rfl]

/-- A result. -/
theorem result_apply (s : FVec Ideal S1x128 .f32) (lo hi : FVec Ideal S32x128 .f32) (row : Vec Ideal S1x128 .i32)
    (d : Fin 32) (l : Fin 128) : result s lo hi row (ix6 0 0 0 0 d l) =
      (if row (ix2 0 l) ≠ 0#32 then lo (ix2 d l) else hi (ix2 d l)) * Ideal.div 1 (s (ix2 0 l)) := by
  rw [← select_ne]
  pointwise [result]

/-- The scores of the first `n` key rows, with `⊥` in the others. -/
def only (n : ℕ) (x : Fin 7 → FVec Ideal S8x128 .f32) : Fin 7 → FVec Ideal S8x128 .f32 := fun i => if i.val < n then x i else fun _ => ⊥

/-- A row of the weights is of an even window, of an odd one, or a padding row. -/
theorem exists_row (r : Fin 128) : (∃ (i : Fin 7) (j : Fin 8), r = ⟨16 * i.val + j.val, by omega⟩) ∨
    (∃ (i : Fin 7) (j : Fin 8), r = ⟨16 * i.val + 8 + j.val, by omega⟩) ∨ ∃ j : Fin 16, r = ⟨112 + j.val, by omega⟩ := by
  by_cases h : r.val < 112
  · by_cases h8 : r.val % 16 < 8
    · exact .inl ⟨⟨r.val / 16, by omega⟩, ⟨r.val % 16, h8⟩, Fin.ext (by simp; omega)⟩
    · exact .inr (.inl ⟨⟨r.val / 16, by omega⟩, ⟨r.val % 16 - 8, by omega⟩, Fin.ext (by simp; omega)⟩)
  · exact .inr (.inr ⟨⟨r.val - 112, by omega⟩, Fin.ext (by simp; omega)⟩)

/-- A weight of those scores: zero in the other rows. -/
theorem weight_only (n : ℕ) (x : Fin 7 → FVec Ideal S8x128 .f32) (t : FVec Ideal S1x128 .f32) (i : Fin 7) (j : Fin 8) (l : Fin 128) :
    weight (only n x i) t (ix2 j l) = if i.val < n then weight (x i) t (ix2 j l) else 0 := by
  unfold only
  split
  · rfl
  · rw [weight_apply, EReal.bot_sub]; rfl

/-- The greatest score of a lane over the first five key rows. -/
theorem top5_apply (x : Fin 7 → FVec Ideal S8x128 .f32) (l : Fin 128) :
    top5 x (ix2 0 l) = Soft.peak fun i j => only 5 x i (ix2 j l) := by
  pointwise [top5]
  rw [Consts.ofBits_bot]
  unfold Soft.peak
  apply le_antisymm
  · rw [Finset.fold_max_le]
    refine ⟨bot_le, fun j _ => ?_⟩
    have h : ∀ i : Fin 7, i.val < 5 → x i (ix2 j l) ≤ Finset.univ.sup fun p : Fin 7 × Fin 8 => only 5 x p.1 (ix2 p.2 l) := fun i hi => by
      have := Finset.le_sup (f := fun p : Fin 7 × Fin 8 => only 5 x p.1 (ix2 p.2 l)) (Finset.mem_univ (i, j))
      simpa [only, hi] using this
    simp only [max_le_iff]
    simp [h]
  · refine Finset.sup_le fun p _ => ?_
    rw [Finset.le_fold_max]
    obtain ⟨i, j⟩ := p
    by_cases hi : i.val < 5
    · refine .inr ⟨j, Finset.mem_univ _, ?_⟩
      fin_cases i <;> first | exact absurd hi (by decide) | simp [only]
    · left; simp [only, hi]

/-- The weights of a tile with five key rows are those with scores of `⊥` in the other rows. -/
theorem weights5_eq (row : Vec Ideal S1x128 .i32) (x : Fin 7 → FVec Ideal S8x128 .f32) : weights5 row x = weights row (only 5 x) := by
  funext y
  have hy : ∃ r l, y = (ix2 r l : S128x128.Idx) := ⟨y 0, y 1, by funext a; fin_cases a <;> rfl⟩
  obtain ⟨r, l, rfl⟩ := hy
  have ht : top (only 5 x) = top5 x := by
    funext z
    have hz : ∃ c : Fin 128, z = (ix2 0 c : S1x128.Idx) := by
      refine ⟨z 1, ?_⟩
      funext a
      fin_cases a
      · exact Subsingleton.elim (α := Fin 1) _ _
      · rfl
    obtain ⟨c, rfl⟩ := hz
    rw [top_apply, top5_apply]
  rcases exists_row r with ⟨i, j, rfl⟩ | ⟨i, j, rfl⟩ | ⟨j, rfl⟩
  · rw [weights_even, weight_only, ht]
    fin_cases i <;> pointwise [weights5, evens, odds, even] <;> (try (simp (disch := omega) only [dif_pos, dif_neg])) <;> (try simp [Scalar.select]) <;> (first | done | rfl | (congr 2; ext; simp; omega) | (congr 3; ext; simp; omega))
  · rw [weights_odd, weight_only, ht]
    fin_cases i <;> pointwise [weights5, evens, odds, even] <;> (try (simp (disch := omega) only [dif_pos, dif_neg])) <;> (try simp [Scalar.select]) <;> (first | done | rfl | (congr 2; ext; simp; omega) | (congr 3; ext; simp; omega))
  · rw [weights_pad]
    pointwise [weights5, evens, odds, even] <;> (simp (disch := omega) only [dif_pos, dif_neg])

/-- The greatest score of a lane over the first three key rows. -/
theorem top3_apply (x : Fin 7 → FVec Ideal S8x128 .f32) (l : Fin 128) :
    top3 x (ix2 0 l) = Soft.peak fun i j => only 3 x i (ix2 j l) := by
  pointwise [top3]
  rw [Consts.ofBits_bot]
  unfold Soft.peak
  apply le_antisymm
  · rw [Finset.fold_max_le]
    refine ⟨bot_le, fun j _ => ?_⟩
    have h : ∀ i : Fin 7, i.val < 3 → x i (ix2 j l) ≤ Finset.univ.sup fun p : Fin 7 × Fin 8 => only 3 x p.1 (ix2 p.2 l) := fun i hi => by
      have := Finset.le_sup (f := fun p : Fin 7 × Fin 8 => only 3 x p.1 (ix2 p.2 l)) (Finset.mem_univ (i, j))
      simpa [only, hi] using this
    simp only [max_le_iff]
    simp [h]
  · refine Finset.sup_le fun p _ => ?_
    rw [Finset.le_fold_max]
    obtain ⟨i, j⟩ := p
    by_cases hi : i.val < 3
    · refine .inr ⟨j, Finset.mem_univ _, ?_⟩
      fin_cases i <;> first | exact absurd hi (by decide) | simp [only]
    · left; simp [only, hi]

/-- The weights of a tile with three key rows are those with scores of `⊥` in the other rows. -/
theorem weights3_eq (row : Vec Ideal S1x128 .i32) (x : Fin 7 → FVec Ideal S8x128 .f32) : weights3 row x = weights row (only 3 x) := by
  funext y
  have hy : ∃ r l, y = (ix2 r l : S128x128.Idx) := ⟨y 0, y 1, by funext a; fin_cases a <;> rfl⟩
  obtain ⟨r, l, rfl⟩ := hy
  have ht : top (only 3 x) = top3 x := by
    funext z
    have hz : ∃ c : Fin 128, z = (ix2 0 c : S1x128.Idx) := by
      refine ⟨z 1, ?_⟩
      funext a
      fin_cases a
      · exact Subsingleton.elim (α := Fin 1) _ _
      · rfl
    obtain ⟨c, rfl⟩ := hz
    rw [top_apply, top3_apply]
  rcases exists_row r with ⟨i, j, rfl⟩ | ⟨i, j, rfl⟩ | ⟨j, rfl⟩
  · rw [weights_even, weight_only, ht]
    fin_cases i <;> pointwise [weights3, evens, odds, even] <;> (try (simp (disch := omega) only [dif_pos, dif_neg])) <;> (try simp [Scalar.select]) <;> (first | done | rfl | (congr 2; ext; simp; omega) | (congr 3; ext; simp; omega))
  · rw [weights_odd, weight_only, ht]
    fin_cases i <;> pointwise [weights3, evens, odds, even] <;> (try (simp (disch := omega) only [dif_pos, dif_neg])) <;> (try simp [Scalar.select]) <;> (first | done | rfl | (congr 2; ext; simp; omega) | (congr 3; ext; simp; omega))
  · rw [weights_pad]
    pointwise [weights3, evens, odds, even] <;> (simp (disch := omega) only [dif_pos, dif_neg])

/-- The weights of a tile are those with scores of `⊥` in the rows past the last. -/
theorem weightsOf_eq (e : Extent) (row : Vec Ideal S1x128 .i32) (x : Fin 7 → FVec Ideal S8x128 .f32) :
    weightsOf e row x = weights row (only e.rows x) := by
  cases e
  · have h : only Extent.full.rows x = x := funext fun i => if_pos i.isLt
    rw [h]; rfl
  · exact weights5_eq row x
  · exact weights3_eq row x

end Cert.KernelIdeal.Stages
-- ==== Proof.BodyValue.lean ====
/- The values of what a trip of the kernel's loop stores: the heads' attention along one row of windows. -/
module

public import proofs.«01_k».proof.Proof.Table
public import proofs.«01_k».proof.Proof.StageValue

@[expose] public section

set_option maxRecDepth 16384

noncomputable section

namespace Cert.KernelIdeal.Body

open Cert.KernelIdeal Cert.KernelIdeal.Gen Cert.KernelIdeal.Stages Idealize.ShloMosaic

/-- What the loads of head `h` hold: the key codes `K`, the query codes `Q`, the values `V`, the bias `B`, the scales `s`
    and `s'`, and the table. -/
structure Loaded (L : Loads Ideal) (h : Fin 4) (K : Fin 5 → Fin 64 → Fin 128 → EReal) (Q : Fin 8 → Fin 32 → Fin 128 → EReal)
    (V : Fin 10 → Fin 32 → Fin 128 → EReal) (B : Fin 8 → Fin 7 → Fin 8 → Fin 128 → EReal) (s s' : Fin 8 → Fin 128 → EReal) :
    Prop where
  keys : ∀ p r l, L.keys h p (ix6 0 0 0 0 r l) = K p r l
  queries : ∀ t d l, L.queries h t (ix6 0 0 0 0 d l) = Q t d l
  values3 : ∀ (n : Fin 8) (i : Fin 3) d r, L.values3 h n (ix6 0 0 0 i d r) = V ⟨n.val + i.val, by omega⟩ d r
  values4 : ∀ (n : Fin 7) (i : Fin 4) d r, L.values4 h n (ix6 0 0 0 i d r) = V ⟨n.val + i.val, by omega⟩ d r
  biases : ∀ t i j l, L.biases h t i (ix5 0 0 0 j l) = B t i j l
  qs : ∀ t l, L.qs h (ix5 0 0 0 t l) = s t l
  ks : ∀ t l, L.ks h (ix5 0 0 0 t l) = s' t l
  row : ∀ r l, L.row r (ix2 0 l) = word r l
  held : ∀ t j l, L.held t (ix2 j l) = word ⟨(heldRow t).val + j.val, by omega⟩ l

variable {L : Loads Ideal} {h : Fin 4} {K : Fin 5 → Fin 64 → Fin 128 → EReal} {Q : Fin 8 → Fin 32 → Fin 128 → EReal}
  {V : Fin 10 → Fin 32 → Fin 128 → EReal} {B : Fin 8 → Fin 7 → Fin 8 → Fin 128 → EReal} {s s' : Fin 8 → Fin 128 → EReal}
  (H : Loaded L h K Q V B s s')

include H

/-- The key codes as loaded, by window slot. -/
theorem key_apply (p : Fin 4) (r : Fin 64) (w : Fin 8) (d : Fin 32) :
    key (L.keys h ⟨p.val, by omega⟩) (L.keys h ⟨p.val + 1, by omega⟩) r w d =
      K ⟨(4 * p.val + w.val) / 4, by omega⟩ r ⟨32 * ((4 * p.val + w.val) % 4) + d.val, by omega⟩ := by
  unfold key
  split
  · rw [H.keys]
    exact congrArg₂ (fun a b => K a r b) (Fin.ext (by simp; omega)) (Fin.ext (by simp; omega))
  · rw [H.keys]
    exact congrArg₂ (fun a b => K a r b) (Fin.ext (by simp; omega)) (Fin.ext (by simp; omega))

/-- A tile's codes, by slot. -/
theorem codes_apply (t u : Fin 8) (d : Fin 32) (l : Fin 128) : codes L h t u (ix2 d l) =
    if u = ⟨(Spec.win t l).val - 4 * (t.val / 2), by have := win_slot t l; omega⟩ then Q t d l else 0 := by
  have hs := table_slot t u l
  have hn := table_none t u l
  have hw := win_slot t l
  unfold codes
  rcases hr : slotRow t u with _ | r
  · rw [if_neg]
    · exact noCodes_apply d l
    · have := hn (by rw [hr]; rfl)
      simp only [Fin.ext_iff]
      omega
  · have hr : word r l ≠ 0#32 ↔ (Spec.win t l).val = 4 * (t.val / 2) + u.val := of_decide_eq_true (by rwa [hr] at hs)
    change picked _ _ _ = _
    rw [picked_apply, H.row, H.queries]
    refine if_congr (hr.trans ?_) rfl rfl
    simp only [Fin.ext_iff]
    omega

/-- A tile's scores of the first `m` key rows, rescaled. -/
theorem logit_apply (m : ℕ) (p : Fin 4) (e : Fin 2) (i : Fin 7) (j : Fin 8) (l : Fin 128) :
    only m (logit L h p e) i (ix2 j l) = Soft.base * Spec.score m K Q B s s' (tile p e) l i j := by
  by_cases hi : i.val < m
  case neg =>
    rw [Spec.score, if_neg fun h => hi h.2, Soft.base_mul_bot]
    unfold only
    rw [if_neg hi]
  have ho : only m (logit L h p e) i = logit L h p e i := if_pos hi
  have e1 : extractStridedSlice S8x128 ![8 * i.val, 128 * e.val] (prod L h p) ⟨rfl, by intro b; fin_cases b <;> simp <;> omega⟩ (ix2 j l) =
      prod L h p (ix2 ⟨8 * i.val + j.val, by omega⟩ ⟨128 * e.val + l.val, by omega⟩) := by
    pointwise
  have e2 : extractStridedSlice S1x128 ![(tile p e).val, 0] (scale (L.qs h) (L.ks h))
      ⟨rfl, by intro b; have := (tile p e).isLt; fin_cases b <;> simp <;> omega⟩ (ix2 0 l) =
      scale (L.qs h) (L.ks h) (ix2 (tile p e) l) := by
    pointwise
  have hw := win_slot (tile p e) l
  have ht : (tile p e).val / 2 = p.val := by simp [tile]; omega
  rw [ho, logit, logits_apply, e1, e2, scale_apply, H.qs, H.ks, H.biases, prod,
    scores_slot _ _ _ e _ l _ _ fun u d => codes_apply H (tile p e) u d l, H.held]
  simp only [key_apply H]
  rw [Spec.score, ← Soft.score_base]
  congr 1
  · congr 1
    unfold Spec.dot
    refine Finset.sum_congr rfl fun d _ => ?_
    congr 1
    exact congrArg₂ (fun a b => K a _ b) (Fin.ext (by simp; omega)) (Fin.ext (by simp; omega))
  · exact if_congr ((table_held (tile p e) j l).trans (and_iff_left hi).symm) rfl rfl

/-- What is stored for a tile whose pair's value product is over three window pairs. -/
theorem out3_apply (g : Extent) (p : Fin 4) (e : Fin 2) (n : Fin 8) (f : Fin 2) (hf : n.val + f.val = lower (tile p e)) (d : Fin 32) (l : Fin 128) :
    out3 L g h p e n f (ix6 0 0 0 0 d l) = Spec.out g.rows K Q V B s s' (tile p e) d l := by
  have hp : L.row (evenRow (tile p e)) (ix2 0 l) ≠ 0#32 ↔ (⟨(Spec.win (tile p e) l).val % 2, by omega⟩ : Fin 2) = 0 := by
    rw [H.row, table_even]; simp [Fin.ext_iff]
  have lo : extractStridedSlice S32x128 ![32 * f.val, 0] (extractStridedSlice S112x128 ![0, 128 * e.val] (mix3 L g h p n)
      ⟨rfl, by intro b; fin_cases b <;> simp <;> omega⟩) ⟨rfl, by intro b; fin_cases b <;> simp <;> omega⟩ (ix2 d l) =
      mix3 L g h p n (ix2 ⟨32 * (⟨f.val, by omega⟩ : Fin 3).val + d.val, by simp; omega⟩ ⟨128 * e.val + l.val, by omega⟩) := by
    pointwise
  have hi : extractStridedSlice S32x128 ![32 * f.val + 32, 0] (extractStridedSlice S112x128 ![0, 128 * e.val] (mix3 L g h p n)
      ⟨rfl, by intro b; fin_cases b <;> simp <;> omega⟩) ⟨rfl, by intro b; fin_cases b <;> simp <;> omega⟩ (ix2 d l) =
      mix3 L g h p n (ix2 ⟨32 * (⟨f.val + 1, by omega⟩ : Fin 3).val + d.val, by simp; omega⟩ ⟨128 * e.val + l.val, by omega⟩) := by
    pointwise
    exact congrArg (fun r => mix3 L g h p n (ix2 r _)) (Fin.ext (by simp; omega))
  have one : extractStridedSlice S1x128 ![96, 0] (extractStridedSlice S112x128 ![0, 128 * e.val] (mix3 L g h p n)
      ⟨rfl, by intro b; fin_cases b <;> simp <;> omega⟩) slices_S112x128_o96_0_S1x128 (ix2 0 l) =
      mix3 L g h p n (ix2 96 ⟨128 * e.val + l.val, by omega⟩) := by
    pointwise
  rw [out3]
  rw [result_apply, lo, hi, one, mix3, mixed3_apply, mixed3_apply, mixed3_one, weight, weightsOf_eq, weights_sum _ _ _ _ hp, H.row,
    weights_mul _ _ _ _ _ hp, weights_mul _ _ _ _ _ hp, Spec.out, ← Soft.att2_base]
  simp only [logit_apply H, H.values3]
  unfold Soft.att2 Spec.value
  congr 1
  have hl := table_lower (tile p e) l
  have hq := win_pair (tile p e) l
  split
  · have h0 : (⟨(Spec.win (tile p e) l).val / 2, by omega⟩ : Fin 10) = ⟨n.val + f.val, by omega⟩ := Fin.ext (by have := hl.mp ‹_›; simp; omega)
    rw [h0]
  · have h1 : (⟨(Spec.win (tile p e) l).val / 2, by omega⟩ : Fin 10) = ⟨n.val + (f.val + 1), by omega⟩ :=
      Fin.ext (by have := mt hl.mpr ‹_›; simp; omega)
    rw [h1]

/-- What is stored for a tile whose pair's value product is over four window pairs. -/
theorem out4_apply (g : Extent) (p : Fin 4) (e : Fin 2) (n : Fin 7) (f : Fin 3) (hf : n.val + f.val = lower (tile p e)) (d : Fin 32) (l : Fin 128) :
    out4 L g h p e n f (ix6 0 0 0 0 d l) = Spec.out g.rows K Q V B s s' (tile p e) d l := by
  have hp : L.row (evenRow (tile p e)) (ix2 0 l) ≠ 0#32 ↔ (⟨(Spec.win (tile p e) l).val % 2, by omega⟩ : Fin 2) = 0 := by
    rw [H.row, table_even]; simp [Fin.ext_iff]
  have lo : extractStridedSlice S32x128 ![32 * f.val, 0] (extractStridedSlice S144x128 ![0, 128 * e.val] (mix4 L g h p n)
      ⟨rfl, by intro b; fin_cases b <;> simp <;> omega⟩) ⟨rfl, by intro b; fin_cases b <;> simp <;> omega⟩ (ix2 d l) =
      mix4 L g h p n (ix2 ⟨32 * (⟨f.val, by omega⟩ : Fin 4).val + d.val, by simp; omega⟩ ⟨128 * e.val + l.val, by omega⟩) := by
    pointwise
  have hi : extractStridedSlice S32x128 ![32 * f.val + 32, 0] (extractStridedSlice S144x128 ![0, 128 * e.val] (mix4 L g h p n)
      ⟨rfl, by intro b; fin_cases b <;> simp <;> omega⟩) ⟨rfl, by intro b; fin_cases b <;> simp <;> omega⟩ (ix2 d l) =
      mix4 L g h p n (ix2 ⟨32 * (⟨f.val + 1, by omega⟩ : Fin 4).val + d.val, by simp; omega⟩ ⟨128 * e.val + l.val, by omega⟩) := by
    pointwise
    exact congrArg (fun r => mix4 L g h p n (ix2 r _)) (Fin.ext (by simp; omega))
  have one : extractStridedSlice S1x128 ![128, 0] (extractStridedSlice S144x128 ![0, 128 * e.val] (mix4 L g h p n)
      ⟨rfl, by intro b; fin_cases b <;> simp <;> omega⟩) slices_S144x128_o128_0_S1x128 (ix2 0 l) =
      mix4 L g h p n (ix2 128 ⟨128 * e.val + l.val, by omega⟩) := by
    pointwise
  rw [out4]
  rw [result_apply, lo, hi, one, mix4, mixed4_apply, mixed4_apply, mixed4_one, weight, weightsOf_eq, weights_sum _ _ _ _ hp, H.row,
    weights_mul _ _ _ _ _ hp, weights_mul _ _ _ _ _ hp, Spec.out, ← Soft.att2_base]
  simp only [logit_apply H, H.values4]
  unfold Soft.att2 Spec.value
  congr 1
  have hl := table_lower (tile p e) l
  have hq := win_pair (tile p e) l
  split
  · have h0 : (⟨(Spec.win (tile p e) l).val / 2, by omega⟩ : Fin 10) = ⟨n.val + f.val, by omega⟩ := Fin.ext (by have := hl.mp ‹_›; simp; omega)
    rw [h0]
  · have h1 : (⟨(Spec.win (tile p e) l).val / 2, by omega⟩ : Fin 10) = ⟨n.val + (f.val + 1), by omega⟩ :=
      Fin.ext (by have := mt hl.mpr ‹_›; simp; omega)
    rw [h1]

end Cert.KernelIdeal.Body

end
-- ==== Proof.Trip.lean ====
/- A trip of the kernel's loop stores the pieces of Proof/Body.lean. -/
module

public import proofs.«01_k».proof.Proof.Body

@[expose] public section

noncomputable section

namespace Cert.KernelIdeal.Body

open Cert.KernelIdeal Cert.KernelIdeal.Gen Cert.KernelIdeal.Stages Idealize.ShloMosaic Idealize.ShloMosaic.TcCoe

variable {F : FTy → Type} [FloatOps F] [Named F]

set_option maxHeartbeats 4000000 in
set_option maxRecDepth 65536 in
/-- The thirty-two pieces that a trip stores, by head. -/
theorem trip_eq (𝒱) (c : Dev nD) (bd) (i : grid0.Coords) (a2) (h2) (a3) (h3) (a4) (h4) (a5) (h5) (a6) (h6) (a7) (h7) (a8) (h8) (a9) (h9)
    (v0 v1 v2 v3 v4 v5 v6 v7 : Vec F S8x128 .i32) (X2 X3 X4 X5 X6 X7 X8 k) :
    (trip_k0_t1 (F := F) 𝒱 c bd i a2 h2 a3 h3 a4 h4 a5 h5 a6 h6 a7 h7 a8 h8 a9 h9 v0 v1 v2 v3 v4 v5 v6 v7 X2 X3 X4 X5 X6 X7 X8 k).1 =
      have L := loads a2 a3 a4 a5 a6 a7 a8 ![v0, v1, v2, v3, v4, v5, v6, v7] X2 X3 X4 X5 X6 X7 X8 (wh k) (wh_lt' k)
      row L .full (wh k) (wh_lt' k) := by
  unfold trip_k0_t1
  sl_kernel_rfl

end Cert.KernelIdeal.Body

end
-- ==== Proof.Tail.lean ====
/- What the body stores: the pieces of the loop's trips, and after them those of the two rows of windows that follow. -/
module

public import proofs.«01_k».proof.Proof.Body

@[expose] public section

noncomputable section

namespace Cert.KernelIdeal.Body

open Cert.KernelIdeal Cert.KernelIdeal.Gen Cert.KernelIdeal.Stages Idealize.ShloMosaic Idealize.ShloMosaic.TcCoe

variable {F : FTy → Type} [FloatOps F] [Named F]

/-- Eight rows of the table from row `r`, as loaded. -/
def rowsAt (a8 : Memref sig .tc .vmem S105x128 .i32) (X8 : BufTy.Contents (Elt F) a8.view.ty) (r : Fin 98) : Vec F S8x128 .i32 :=
  View.readAt (Elt F) a8.view (Rect.unit (s := S105x128) ![r.val, 0] S8x128.size (by
    intro b; fin_cases b <;> simp <;> omega)).toLoadRect X8

/-- The eight tiles' rows that mark the places of a key, as loaded. -/
def heldRows (a8 : Memref sig .tc .vmem S105x128 .i32) (X8 : BufTy.Contents (Elt F) a8.view.ty) : Fin 8 → Vec F S8x128 .i32 :=
  ![rowsAt a8 X8 5, rowsAt a8 X8 19, rowsAt a8 X8 32, rowsAt a8 X8 45, rowsAt a8 X8 58, rowsAt a8 X8 71, rowsAt a8 X8 84, rowsAt a8 X8 97]

set_option maxHeartbeats 4000000 in
set_option maxRecDepth 65536 in
/-- The pieces of the body: last those of the tenth row of windows, before them those of the ninth, and first the loop's. -/
theorem body_eq (c : Dev nD) (i : grid0.Coords) (a2) (h2 : a2.IsWhole) (a3) (h3 : a3.IsWhole) (a4) (h4 : a4.IsWhole) (a5) (h5 : a5.IsWhole)
    (a6) (h6 : a6.IsWhole) (a7) (h7 : a7.IsWhole) (a8) (h8 : a8.IsWhole) (a9) (h9 : a9.IsWhole) (x0 x1 x2 x3 x4 x5 x6) :
    (kernelRun0_A (F := F) c i a2 h2 a3 h3 a4 h4 a5 h5 a6 h6 a7 h7 a8 h8 a9 h9 x0 x1 x2 x3 x4 x5 x6).1 =
      have L (w : ℕ) (hw : w < 10) := loads a2 a3 a4 a5 a6 a7 a8 (heldRows a8 (h8.unread x6)) (h2.unread x0) (h3.unread x1) (h4.unread x2)
        (h5.unread x3) (h6.unread x4) (h7.unread x5) (h8.unread x6) w hw
      row (L 9 (by decide)) .three 9 (by decide) ++ (row (L 8 (by decide)) .five 8 (by decide) ++
        pb_k0_t1 (F := F) Variants.none c none i a2 h2 a3 h3 a4 h4 a5 h5 a6 h6 a7 h7 a8 h8 a9 h9
          (rowsAt a8 (h8.unread x6) 5) (rowsAt a8 (h8.unread x6) 19) (rowsAt a8 (h8.unread x6) 32) (rowsAt a8 (h8.unread x6) 45)
          (rowsAt a8 (h8.unread x6) 58) (rowsAt a8 (h8.unread x6) 71) (rowsAt a8 (h8.unread x6) 84) (rowsAt a8 (h8.unread x6) 97)
          (h2.unread x0) (h3.unread x1) (h4.unread x2) (h5.unread x3) (h6.unread x4) (h7.unread x5) (h8.unread x6) k0_t1_loop.trips) := by
  unfold kernelRun0_A
  sl_kernel_rfl

end Cert.KernelIdeal.Body

end
-- ==== Proof.BlockValue.lean ====
/- The output block of a grid point on the extended reals: every trip of the loop, and each of
   the two rows of windows after it, stores the attention along its row of windows. -/
module

public import proofs.«01_k».proof.Proof.BodyValue
public import proofs.«01_k».proof.Proof.Trip
public import proofs.«01_k».proof.Proof.Tail
public import Idealize.ShloMosaic.Lib.WholeRead
public import Idealize.ShloMosaic.Lib.Pipeline.ValueKit

@[expose] public section

set_option maxRecDepth 16384

noncomputable section

namespace Cert.KernelIdeal.Body

open Cert.KernelIdeal Cert.KernelIdeal.Gen Cert.KernelIdeal.Stages Idealize.ShloMosaic Idealize.ShloMosaic.TcCoe

/-- The table of lane masks. -/
def table : Vec Ideal S105x128 .i32 := fun i => lit0 (S105x128.rowMajor i)

/-- A property of every piece of every trip holds of the pieces of the trips so far. -/
theorem mem_trips (P : View.Piece (Elt Ideal) S1x4x10x8x32x128 .bf16 → Prop) (𝒱) (c : Dev nD) (bd) (i : grid0.Coords)
    (a2) (h2) (a3) (h3) (a4) (h4) (a5) (h5) (a6) (h6) (a7) (h7) (a8) (h8) (a9) (h9)
    (v0 v1 v2 v3 v4 v5 v6 v7 : Vec Ideal S8x128 .i32) (X2 X3 X4 X5 X6 X7 X8)
    (hP : ∀ k, ∀ q ∈ (trip_k0_t1 (F := Ideal) 𝒱 c bd i a2 h2 a3 h3 a4 h4 a5 h5 a6 h6 a7 h7 a8 h8 a9 h9 v0 v1 v2 v3 v4 v5 v6 v7 X2 X3 X4 X5 X6 X7 X8 k).1, P q) :
    ∀ n, ∀ q ∈ pb_k0_t1 (F := Ideal) 𝒱 c bd i a2 h2 a3 h3 a4 h4 a5 h5 a6 h6 a7 h7 a8 h8 a9 h9 v0 v1 v2 v3 v4 v5 v6 v7 X2 X3 X4 X5 X6 X7 X8 n, P q
  | 0, q, hq => absurd hq (by unfold pb_k0_t1; exact List.not_mem_nil)
  | n + 1, q, hq => by
    have ih := mem_trips P 𝒱 c bd i a2 h2 a3 h3 a4 h4 a5 h5 a6 h6 a7 h7 a8 h8 a9 h9 v0 v1 v2 v3 v4 v5 v6 v7 X2 X3 X4 X5 X6 X7 X8 hP n
    unfold pb_k0_t1 pb_k0_t1Step at hq
    split at hq
    · rcases List.mem_append.mp hq with hq | hq
      · exact hP _ q hq
      · exact ih q hq
    · exact ih q hq

variable (x0 : Vec Ideal S1x4x10x5x64x128 .bf16) (x1 : Vec Ideal S1x4x10x8x32x128 .bf16) (x2 : Vec Ideal S1x4x10x10x32x128 .bf16)
  (x3 : Vec Ideal S4x8x7x8x128 .f32) (x4 x5 : Vec Ideal S1x4x10x8x128 .f32)

/-- The output block in terms of the operands' blocks: the attention of each head and row of windows. -/
def block : Vec Ideal S1x4x10x8x32x128 .bf16 := fun y =>
  Spec.out (Spec.rows (y 2)) (fun a r l => x0 (ix6 0 (y 1) (y 2) a r l)) (fun t d l => x1 (ix6 0 (y 1) (y 2) t d l))
    (fun n d r => x2 (ix6 0 (y 1) (y 2) n d r)) (fun t i j l => x3 (ix5 (y 1) t i j l))
    (fun t l => x4 (ix5 0 (y 1) (y 2) t l)) (fun t l => x5 (ix5 0 (y 1) (y 2) t l)) (y 3) (y 4) (y 5)

/-- What the loads of a row of windows hold. -/
theorem loaded (a2) (h2 : a2.IsWhole) (a3) (h3 : a3.IsWhole) (a4) (h4 : a4.IsWhole) (a5) (h5 : a5.IsWhole) (a6) (h6 : a6.IsWhole)
    (a7) (h7 : a7.IsWhole) (a8 : Memref sig .tc .vmem S105x128 .i32) (h8 : a8.IsWhole) (v : Fin 8 → Vec Ideal S8x128 .i32)
    (hv : ∀ t j l, v t (ix2 j l) = word ⟨(heldRow t).val + j.val, by omega⟩ l) (w : ℕ) (hw : w < 10) (h : Fin 4) :
    Loaded (loads (F := Ideal) a2 a3 a4 a5 a6 a7 a8 v (h2.unread x0) (h3.unread x1) (h4.unread x2) (h5.unread x3) (h6.unread x4)
        (h7.unread x5) (h8.unread table) w hw) h
      (fun a r l => x0 (ix6 0 h ⟨w, hw⟩ a r l)) (fun t d l => x1 (ix6 0 h ⟨w, hw⟩ t d l))
      (fun n d r => x2 (ix6 0 h ⟨w, hw⟩ n d r)) (fun t i j l => x3 (ix5 h t i j l))
      (fun t l => x4 (ix5 0 h ⟨w, hw⟩ t l)) (fun t l => x5 (ix5 0 h ⟨w, hw⟩ t l)) where
  keys p r l := by
    refine (h2.readAt_unread x0 _ _).trans (congrArg x0 ?_)
    blk_ext [Rect.idx_unit_val]
  queries t d l := by
    refine (h3.readAt_unread x1 _ _).trans (congrArg x1 ?_)
    blk_ext [Rect.idx_unit_val]
  values3 n i d r := by
    refine (h4.readAt_unread x2 _ _).trans (congrArg x2 ?_)
    blk_ext [Rect.idx_unit_val]
  values4 n i d r := by
    refine (h4.readAt_unread x2 _ _).trans (congrArg x2 ?_)
    blk_ext [Rect.idx_unit_val]
  biases t i j l := by
    refine (h5.readAt_unread x3 _ _).trans (congrArg x3 ?_)
    blk_ext [Rect.idx_unit_val]
  qs t l := by
    refine (h6.readAt_unread x4 _ _).trans (congrArg x4 ?_)
    blk_ext [Rect.idx_unit_val]
  ks t l := by
    refine (h7.readAt_unread x5 _ _).trans (congrArg x5 ?_)
    blk_ext [Rect.idx_unit_val]
  row r l := by
    refine (h8.readAt_unread table _ _).trans (congrArg table ?_)
    blk_ext [Rect.idx_unit_val]
  held t j l := hv t j l

/-- A stored tile is its part of the block. -/
theorem piece (g : Extent) (w : ℕ) (hw : w < 10) (hg : g.rows = Spec.rows ⟨w, hw⟩) (h : Fin 4) (t : Fin 8)
    (o : FVec Ideal S1x1x1x1x32x128 .bf16) (ho : ∀ d l, o (ix6 0 0 0 0 d l) = Spec.out g.rows (fun a r l => x0 (ix6 0 h ⟨w, hw⟩ a r l)) (fun t d l => x1 (ix6 0 h ⟨w, hw⟩ t d l))
      (fun n d r => x2 (ix6 0 h ⟨w, hw⟩ n d r)) (fun t i j l => x3 (ix5 h t i j l))
      (fun t l => x4 (ix5 0 h ⟨w, hw⟩ t l)) (fun t l => x5 (ix5 0 h ⟨w, hw⟩ t l)) t d l)
    (x : S1x1x1x1x32x128.Idx) : o x = block x0 x1 x2 x3 x4 x5 ((place w hw h t).emb x) := by
  have hx : ∃ d l, x = (ix6 0 0 0 0 d l : S1x1x1x1x32x128.Idx) := ⟨x 4, x 5, by blk_ext⟩
  obtain ⟨d, l, rfl⟩ := hx
  have e : (place w hw h t).emb (ix6 0 0 0 0 d l : S1x1x1x1x32x128.Idx) = (ix6 0 h ⟨w, hw⟩ t d l : S1x4x10x8x32x128.Idx) := by
    unfold place
    blk_ext
  refine (ho d l).trans ?_
  rw [hg]
  exact (congrArg (block x0 x1 x2 x3 x4 x5) e).symm

/-- The words of the rows of the table, as loaded. -/
theorem rowsAt_apply (a8) (h8 : a8.IsWhole) (r : Fin 98) (j : Fin 8) (l : Fin 128) :
    rowsAt a8 (h8.unread table) r (ix2 j l) = word ⟨r.val + j.val, by omega⟩ l := by
  refine (h8.readAt_unread table _ _).trans (congrArg table ?_)
  blk_ext [Rect.idx_unit_val]

/-- The pieces that a row of windows stores for a head are parts of the block. -/
theorem pieces_block (g : Extent) (w : ℕ) (hw : w < 10) (hg : g.rows = Spec.rows ⟨w, hw⟩) (h : Fin 4) (L : Loads Ideal)
    (H : Loaded L h (fun a r l => x0 (ix6 0 h ⟨w, hw⟩ a r l)) (fun t d l => x1 (ix6 0 h ⟨w, hw⟩ t d l))
      (fun n d r => x2 (ix6 0 h ⟨w, hw⟩ n d r)) (fun t i j l => x3 (ix5 h t i j l))
      (fun t l => x4 (ix5 0 h ⟨w, hw⟩ t l)) (fun t l => x5 (ix5 0 h ⟨w, hw⟩ t l))) :
    ∀ q ∈ pieces L g w hw h, ∀ x : q.1.shape.Idx, q.2 x = block x0 x1 x2 x3 x4 x5 (q.1.emb x) := by
  intro q hq
  simp only [pieces, List.mem_cons, List.not_mem_nil, or_false] at hq
  rcases hq with rfl | rfl | rfl | rfl | rfl | rfl | rfl | rfl
  · exact piece x0 x1 x2 x3 x4 x5 g w hw hg h 7 _ (out3_apply H g 3 1 7 1 rfl)
  · exact piece x0 x1 x2 x3 x4 x5 g w hw hg h 6 _ (out3_apply H g 3 0 7 0 rfl)
  · exact piece x0 x1 x2 x3 x4 x5 g w hw hg h 5 _ (out4_apply H g 2 1 4 2 rfl)
  · exact piece x0 x1 x2 x3 x4 x5 g w hw hg h 4 _ (out4_apply H g 2 0 4 0 rfl)
  · exact piece x0 x1 x2 x3 x4 x5 g w hw hg h 3 _ (out3_apply H g 1 1 2 1 rfl)
  · exact piece x0 x1 x2 x3 x4 x5 g w hw hg h 2 _ (out3_apply H g 1 0 2 0 rfl)
  · exact piece x0 x1 x2 x3 x4 x5 g w hw hg h 1 _ (out3_apply H g 0 1 0 1 rfl)
  · exact piece x0 x1 x2 x3 x4 x5 g w hw hg h 0 _ (out3_apply H g 0 0 0 0 rfl)

/-- The pieces that a row of windows stores for the four heads are parts of the block. -/
theorem row_block (g : Extent) (w : ℕ) (hw : w < 10) (hg : g.rows = Spec.rows ⟨w, hw⟩) (L : Loads Ideal)
    (H : ∀ h : Fin 4, Loaded L h (fun a r l => x0 (ix6 0 h ⟨w, hw⟩ a r l)) (fun t d l => x1 (ix6 0 h ⟨w, hw⟩ t d l))
      (fun n d r => x2 (ix6 0 h ⟨w, hw⟩ n d r)) (fun t i j l => x3 (ix5 h t i j l))
      (fun t l => x4 (ix5 0 h ⟨w, hw⟩ t l)) (fun t l => x5 (ix5 0 h ⟨w, hw⟩ t l))) :
    ∀ q ∈ row L g w hw, ∀ x : q.1.shape.Idx, q.2 x = block x0 x1 x2 x3 x4 x5 (q.1.emb x) := by
  intro q hq
  rcases List.mem_append.mp hq with hq | hq
  · exact pieces_block x0 x1 x2 x3 x4 x5 g w hw hg 3 _ (H 3) q hq
  rcases List.mem_append.mp hq with hq | hq
  · exact pieces_block x0 x1 x2 x3 x4 x5 g w hw hg 2 _ (H 2) q hq
  rcases List.mem_append.mp hq with hq | hq
  · exact pieces_block x0 x1 x2 x3 x4 x5 g w hw hg 1 _ (H 1) q hq
  · exact pieces_block x0 x1 x2 x3 x4 x5 g w hw hg 0 _ (H 0) q hq

/-- A row of windows before the ninth has seven key rows. -/
theorem rows_full : ∀ (w : ℕ) (hw : w < 10), w < 8 → Extent.full.rows = Spec.rows ⟨w, hw⟩ := by
  intro w hw h
  unfold Spec.rows
  rw [if_neg (by simp [Fin.ext_iff]; omega), if_neg (by simp [Fin.ext_iff]; omega)]
  rfl

/-- The output block after the body is that block. -/
theorem out_eq (c : Dev nD) (i : grid0.Coords) (a2) (h2) (a3) (h3) (a4) (h4) (a5) (h5) (a6) (h6) (a7) (h7) (a8) (h8) (a9) (h9)
    (y : S1x4x10x8x32x128.Idx) :
    out0_A_7 (F := Ideal) c i a2 h2 a3 h3 a4 h4 a5 h5 a6 h6 a7 h7 a8 h8 a9 h9 x0 x1 x2 x3 x4 x5 table y = block x0 x1 x2 x3 x4 x5 y := by
  unfold out0_A_7
  rw [View.read_writes_junk_eq_canon]
  refine View.canon_apply_of_pieces _ _ ?_ y (cover0_A_7 c i a2 h2 a3 h3 a4 h4 a5 h5 a6 h6 a7 h7 a8 h8 a9 h9 x0 x1 x2 x3 x4 x5 table y)
  rw [body_eq]
  have hv : ∀ (t j : Fin 8) (l : Fin 128), heldRows a8 (h8.unread table) t (ix2 j l) = word ⟨(heldRow t).val + j.val, by omega⟩ l := by
    intro t j l
    fin_cases t <;> exact rowsAt_apply a8 h8 _ j l
  have H (w : ℕ) (hw : w < 10) (h : Fin 4) := loaded x0 x1 x2 x3 x4 x5 a2 h2 a3 h3 a4 h4 a5 h5 a6 h6 a7 h7 a8 h8 _ hv w hw h
  intro q hq
  rcases List.mem_append.mp hq with hq | hq
  · exact row_block x0 x1 x2 x3 x4 x5 .three 9 (by decide) rfl _ (H 9 (by decide)) q hq
  rcases List.mem_append.mp hq with hq | hq
  · exact row_block x0 x1 x2 x3 x4 x5 .five 8 (by decide) rfl _ (H 8 (by decide)) q hq
  refine mem_trips (fun q => ∀ x : q.1.shape.Idx, q.2 x = block x0 x1 x2 x3 x4 x5 (q.1.emb x)) _ _ _ _ _ _ _ _ _ _ _ _ _ _ _ _ _ _ _ _ _ _ _ _ _ _ _ _ _ _ _ _ _ _ _
    (fun k => ?_) _ q hq
  rw [trip_eq]
  exact row_block x0 x1 x2 x3 x4 x5 .full (wh k) (wh_lt' k) (rows_full _ _ (wh_lt k)) _ (H (wh k) (wh_lt' k))

end Cert.KernelIdeal.Body

end
-- ==== Proof.KernelValue.lean ====
/- The kernel's output array on the extended reals: every head's attention along every row of windows. -/
module

public import proofs.«01_k».proof.Proof.BlockValue
public import proofs.«01_k».proof.Proof.Gen.KernelIdeal.Value
public import Idealize.ShloMosaic.Lib.Pipeline.ValueKit

@[expose] public section

set_option maxRecDepth 16384

noncomputable section

namespace Cert.KernelIdeal.Body

open Cert.KernelIdeal Cert.KernelIdeal.Gen Cert.KernelIdeal.Stages Idealize.ShloMosaic Idealize.ShloMosaic.TcCoe

variable (m : (ℓ : Loc nD τ sig) → Buf (Elt Ideal) ℓ)

/-- The output array in terms of the argument arrays. -/
def outArray (c : Dev nD) : Vec Ideal S4x8x10x8x32x128 .bf16 := fun i =>
  Spec.out (Spec.rows (i 2)) (fun a r l => m ((c : Thread nD τ).loc main_arg0) (ix6 (i 0) (i 1) (i 2) a r l))
    (fun t d l => m ((c : Thread nD τ).loc main_arg1) (ix6 (i 0) (i 1) (i 2) t d l))
    (fun n d r => m ((c : Thread nD τ).loc main_arg2) (ix6 (i 0) (i 1) (i 2) n d r))
    (fun t k j l => m ((c : Thread nD τ).loc main_arg3) (ix5 (i 1) t k j l))
    (fun t l => m ((c : Thread nD τ).loc main_arg4) (ix5 (i 0) (i 1) (i 2) t l))
    (fun t l => m ((c : Thread nD τ).loc main_arg5) (ix5 (i 0) (i 1) (i 2) t l)) (i 3) (i 4) (i 5)

/-- The blocks that each window takes at a grid point: the batch by the point's first coordinate, four heads by its second. -/
theorem idx : ∀ t : Fin cfg0.N, win0_0.index t = ![t.val / 2, t.val % 2, 0, 0, 0, 0] ∧ win0_1.index t = ![t.val / 2, t.val % 2, 0, 0, 0, 0] ∧
    win0_2.index t = ![t.val / 2, t.val % 2, 0, 0, 0, 0] ∧ win0_3.index t = ![t.val % 2, 0, 0, 0, 0] ∧
    win0_4.index t = ![t.val / 2, t.val % 2, 0, 0, 0] ∧ win0_5.index t = ![t.val / 2, t.val % 2, 0, 0, 0] ∧
    win0_6.index t = ![0, 0] ∧ win0_7.index t = ![t.val / 2, t.val % 2, 0, 0, 0, 0] := by
  decide +kernel

set_option maxHeartbeats 2000000 in
/-- What a grid point writes is its block of that array. -/
theorem point (c : Dev nD) (t : Fin cfg0.N) (h : Fin 4) (w : Fin 10) (k : Fin 8) (d : Fin 32) (l : Fin 128) :
    outsAt0 m c t (ix6 0 h w k d l) = outArray m c ((win0_7.blk t).view.emb (ix6 0 h w k d l : S1x4x10x8x32x128.Idx)) := by
  have hT : iblk m c 6 t = table := by
    funext x
    blk_ext [iblk, V, table, idx t]
  unfold outsAt0
  rw [hT]
  refine (out_eq _ _ _ _ _ _ c _ _ _ _ _ _ _ _ _ _ _ _ _ _ _ _ _ _).trans ?_
  unfold outArray block
  congr 1
  · refine congrArg Spec.rows (Fin.ext ?_)
    blk_simp [idx t]
  · funext a r l
    blk_ext [iblk, V, idx t]
  · funext a r l
    blk_ext [iblk, V, idx t]
  · funext a r l
    blk_ext [iblk, V, idx t]
  · funext a r j l
    blk_ext [iblk, V, idx t]
  · funext a l
    blk_ext [iblk, V, idx t]
  · funext a l
    blk_ext [iblk, V, idx t]
  all_goals
    apply Fin.ext
    blk_simp [idx t]

/-- The kernel leaves that array. -/
theorem arr_eq (c : Dev nD) : (dats m 0 c).arrAt 7 cfg0.N = outArray m c := by
  refine (dats m 0 c).arrAt_eq_of_covers 7 _ (by decide +kernel) fun t hf y => ?_
  blk_simp
  rw [after0_7]
  have hy : ∃ h w k d l, y = (ix6 0 h w k d l : S1x4x10x8x32x128.Idx) := ⟨y 1, y 2, y 3, y 4, y 5, by blk_ext⟩
  obtain ⟨h, w, k, d, l, rfl⟩ := hy
  exact point m c t h w k d l

end Cert.KernelIdeal.Body

end
-- ==== Proof.RefStages.lean ====
/- The reference as stages: the mask, the keys and values along one axis of keys, the scores, the softmax weights and the
   result. -/
module

public import proofs.«01_k».proof.Proof.Gen.ReferenceIdeal.Run

@[expose] public section

noncomputable section

namespace Cert.ReferenceIdeal.Stages

open Cert.ReferenceIdeal Cert.ReferenceIdeal.Gen Cert.ReferenceIdeal.Value Idealize.ShloMosaic

variable {F : FTy → Type} [FloatOps F]

/-- A constant at every row of windows, tile, lane, window, key row and place. -/
def word (w : BitVec 32) : IVec S10x8x128x20x7x8 32 := broadcastInDim S10x8x128x20x7x8 ![] bcast_S_S10x8x128x20x7x8 (constantI S_ 32 w)

/-- The window of the query's column. -/
def window : IVec S10x8x128x20x7x8 32 :=
  Host.divsi (addi (addi (muli (word 16#32) (iotaInDim S10x8x128x20x7x8 32 1)) (Host.remsi (iotaInDim S10x8x128x20x7x8 32 2) (word 16#32))) (word 4#32)) (word 7#32)

/-- The column of a key. -/
def keyCol : IVec S10x8x128x20x7x8 32 :=
  addi (subi (muli (word 7#32) (iotaInDim S10x8x128x20x7x8 32 3)) (word 4#32)) (iotaInDim S10x8x128x20x7x8 32 5)

/-- The number of key rows of a row of windows. -/
def rows : IVec S10x8x128x20x7x8 32 :=
  select (cmpi .eq (iotaInDim S10x8x128x20x7x8 32 0) (word 9#32)) (word 3#32)
    (select (cmpi .eq (iotaInDim S10x8x128x20x7x8 32 0) (word 8#32)) (word 5#32) (word 7#32))

/-- Which keys a query attends. -/
def attends : IVec S10x8x128x20x7x8 1 :=
  andi (andi (andi (andi (cmpi .eq window (iotaInDim S10x8x128x20x7x8 32 3)) (cmpi .slt (iotaInDim S10x8x128x20x7x8 32 4) (id rows)))
    (cmpi .slt (iotaInDim S10x8x128x20x7x8 32 5) (word 7#32))) (cmpi .sge keyCol (word 0#32))) (cmpi .slt keyCol (word 128#32))

/-- The key codes along one axis of keys. -/
def keys (x : FVec F S4x8x10x5x64x128 .bf16) : FVec F S4x8x10x1120x32 .f32 :=
  shapeCast _ (extractStridedSlice S4x8x10x20x7x8x32 ![0, 0, 0, 0, 0, 0, 0] (shapeCast _ (transpose S4x8x10x5x4x8x8x32 [0, 1, 2, 3, 6, 4, 5, 7]
    (shapeCast _ (extf .f32 x bitsLt_bf16_f32) shapeCasts_S4x8x10x5x64x128_S4x8x10x5x8x8x4x32) transposes_S4x8x10x5x8x8x4x32_S4x8x10x5x4x8x8x32_0_1_2_3_6_4_5_7)
    shapeCasts_S4x8x10x5x4x8x8x32_S4x8x10x20x8x8x32) slices_S4x8x10x20x8x8x32_S4x8x10x20x7x8x32_0_0_0_0_0_0_0) shapeCasts_S4x8x10x20x7x8x32_S4x8x10x1120x32

/-- The values along one axis of keys. -/
def values (x : FVec F S4x8x10x10x32x128 .bf16) : FVec F S4x8x10x1120x32 .f32 :=
  shapeCast _ (extractStridedSlice S4x8x10x20x7x8x32 ![0, 0, 0, 0, 0, 0, 0] (shapeCast _ (transpose S4x8x10x10x2x8x8x32 [0, 1, 2, 3, 6, 5, 7, 4]
    (shapeCast _ (extf .f32 x bitsLt_bf16_f32) shapeCasts_S4x8x10x10x32x128_S4x8x10x10x32x8x2x8) transposes_S4x8x10x10x32x8x2x8_S4x8x10x10x2x8x8x32_0_1_2_3_6_5_7_4)
    shapeCasts_S4x8x10x10x2x8x8x32_S4x8x10x20x8x8x32) slices_S4x8x10x20x8x8x32_S4x8x10x20x7x8x32_0_0_0_0_0_0_0) shapeCasts_S4x8x10x20x7x8x32_S4x8x10x1120x32

/-- The bias along one axis of keys, the same for every window. -/
def biases (x : FVec F S8x8x7x8x128 .f32) : FVec F S1x8x1x8x128x1120 .f32 :=
  shapeCast _ (broadcastInDim S8x8x128x20x7x8 ![0, 1, 2, 3, 4, 5] bcast_S8x8x128x1x7x8_S8x8x128x20x7x8_0_1_2_3_4_5
    (broadcastInDim S8x8x128x1x7x8 ![0, 1, 2, 4, 5] bcast_S8x8x128x7x8_S8x8x128x1x7x8_0_1_2_4_5
      (transpose S8x8x128x7x8 [0, 1, 4, 2, 3] x transposes_S8x8x7x8x128_S8x8x128x7x8_0_1_4_2_3))) shapeCasts_S8x8x128x20x7x8_S1x8x1x8x128x1120

/-- The products of the queries' codes with the keys'. -/
def dots (k : FVec F S4x8x10x1120x32 .f32) (q : FVec F S4x8x10x8x32x128 .bf16) : FVec F S4x8x10x8x128x1120 .f32 :=
  Host.dotGeneral dot_S4x8x10x8x32x128_S4x8x10x1120x32_S4x8x10x8x128x1120_4_4_35_3_012_012 none (extf .f32 q bitsLt_bf16_f32) k

/-- The column scales. -/
def scales (qs ks : FVec F S4x8x10x8x128 .f32) : FVec F S4x8x10x8x128 .f32 :=
  Host.divf (mulf qs ks) (broadcastInDim S4x8x10x8x128 ![] bcast_S_S4x8x10x8x128 (Host.sqrt (constant S_ .f32 0x42000000#32)))

/-- One number for each query at every key. -/
def along (x : FVec F S4x8x10x8x128 .f32) : FVec F S4x8x10x8x128x1120 .f32 :=
  broadcastInDim S4x8x10x8x128x1120 ![0, 1, 2, 3, 4, 5] bcast_S4x8x10x8x128x1_S4x8x10x8x128x1120_0_1_2_3_4_5
    (broadcastInDim S4x8x10x8x128x1 ![0, 1, 2, 3, 4] bcast_S4x8x10x8x128_S4x8x10x8x128x1_0_1_2_3_4 x)

/-- The scores: the products rescaled, with the bias, masked. -/
def scores (s : FVec F S4x8x10x8x128x1120 .f32) (c : FVec F S4x8x10x8x128 .f32) (b : FVec F S1x8x1x8x128x1120 .f32) : FVec F S4x8x10x8x128x1120 .f32 :=
  select (broadcastInDim S4x8x10x8x128x1120 ![2, 3, 4, 5] bcast_S10x8x128x1120_S4x8x10x8x128x1120_2_3_4_5 (shapeCast _ attends shapeCasts_S10x8x128x20x7x8_S10x8x128x1120))
    (addf (mulf s (along c))
      (broadcastInDim S4x8x10x8x128x1120 ![0, 1, 2, 3, 4, 5] bcast_S1x8x1x8x128x1120_S4x8x10x8x128x1120_0_1_2_3_4_5 b))
    (broadcastInDim S4x8x10x8x128x1120 ![] bcast_S_S4x8x10x8x128x1120 (id (constant S_ .f32 0xFF800000#32)))

/-- The exponentials of the scores less the greatest. -/
def exps (s : FVec F S4x8x10x8x128x1120 .f32) : FVec F S4x8x10x8x128x1120 .f32 :=
  Host.exp (subf s (along (Host.reduce FloatOps.maximumf s (constant S_ .f32 0xFF800000#32) reducesTo_S4x8x10x8x128x1120_S4x8x10x8x128_d5 h_S_)))

/-- The softmax weights: the exponentials by the reciprocal of their sum. -/
def weights (e : FVec F S4x8x10x8x128x1120 .f32) : FVec F S4x8x10x8x128x1120 .f32 :=
  extf .f32 (truncf .bf16 (mulf e (broadcastInDim S4x8x10x8x128x1120 ![0, 1, 2, 3, 4, 5] bcast_S4x8x10x8x128x1_S4x8x10x8x128x1120_0_1_2_3_4_5
    (Host.divf (broadcastInDim S4x8x10x8x128x1 ![] bcast_S_S4x8x10x8x128x1 (constant S_ .f32 0x3F800000#32))
      (broadcastInDim S4x8x10x8x128x1 ![0, 1, 2, 3, 4] bcast_S4x8x10x8x128_S4x8x10x8x128x1_0_1_2_3_4
        (Host.reduceAdd e (constant S_ .f32 0x00000000#32) reducesTo_S4x8x10x8x128x1120_S4x8x10x8x128_d5 h_S_))))) bitsLt_bf16_f32) bitsLt_bf16_f32

/-- The result: the sums of the values by the weights. -/
def result (v : FVec F S4x8x10x1120x32 .f32) (a : FVec F S4x8x10x8x128x1120 .f32) : FVec F S4x8x10x8x32x128 .bf16 :=
  truncf .bf16 (transpose S4x8x10x8x32x128 [0, 1, 2, 4, 3, 5]
    (Host.dotGeneral dot_S4x8x10x1120x32_S4x8x10x8x128x1120_S4x8x10x32x8x128_3_5_4_34_012_012 none v a)
    transposes_S4x8x10x32x8x128_S4x8x10x8x32x128_0_1_2_4_3_5) bitsLt_bf16_f32

/-- The reference's result is its stages at its arguments. -/
theorem res_eq (m : (ℓ : Loc nD τ sig) → Buf (Elt F) ℓ) (c : Dev nD) :
    res_out0 m c = result (values (m ((c.tc : Thread nD τ).loc main_arg2))) (weights (exps (scores
      (dots (keys (m ((c.tc : Thread nD τ).loc main_arg0))) (m ((c.tc : Thread nD τ).loc main_arg1)))
      (scales (m ((c.tc : Thread nD τ).loc main_arg4)) (m ((c.tc : Thread nD τ).loc main_arg5)))
      (biases (m ((c.tc : Thread nD τ).loc main_arg3)))))) := by
  unfold res_out0 res_main_v83
  rfl

end Cert.ReferenceIdeal.Stages

end
-- ==== Proof.RefValue.lean ====
/- The values of the reference's stages on the extended reals. -/
module

public import proofs.«01_k».proof.Proof.RefStages
public import proofs.«01_k».proof.Proof.Spec
public import Idealize.ShloMosaic.Lib.Pointwise

@[expose] public section

set_option maxRecDepth 16384

noncomputable section

namespace Cert.ReferenceIdeal.Stages

open Cert.ReferenceIdeal Cert.ReferenceIdeal.Gen Idealize.ShloMosaic

/-- The place of a key on the axis of keys. -/
def place (u : Fin 20) (i : Fin 7) (j : Fin 8) : Fin 1120 := ⟨56 * u.val + 8 * i.val + j.val, by omega⟩

/-- A sum over the axis of keys by window, key row and place. -/
theorem sum_places (f : Fin 1120 → EReal) : ∑ n, f n = ∑ u, ∑ i, ∑ j, f (place u i j) := by
  rw [← (finProdFinEquiv (m := 20) (n := 56)).sum_comp, Fintype.sum_prod_type]
  refine Finset.sum_congr rfl fun u _ => ?_
  rw [← (finProdFinEquiv (m := 7) (n := 8)).sum_comp, Fintype.sum_prod_type]
  refine Finset.sum_congr rfl fun i _ => Finset.sum_congr rfl fun j _ => ?_
  congr 1; ext; simp [finProdFinEquiv, place]; omega

/-- Every key has a window, a key row and a place. -/
theorem exists_place (n : Fin 1120) : ∃ u i j, n = place u i j :=
  ⟨⟨n.val / 56, by omega⟩, ⟨n.val / 8 % 7, by omega⟩, ⟨n.val % 8, by omega⟩, by ext; simp [place]; omega⟩

/-- The key codes, by window, key row and place. -/
theorem keys_apply (x : FVec Ideal S4x8x10x5x64x128 .bf16) (b : Fin 4) (h : Fin 8) (r : Fin 10) (u : Fin 20) (i : Fin 7) (j : Fin 8) (d : Fin 32) :
    keys x (ix5 b h r (place u i j) d) = x (ix6 b h r ⟨u.val / 4, by omega⟩ ⟨8 * i.val + j.val, by omega⟩ ⟨32 * (u.val % 4) + d.val, by omega⟩) := by
  pointwise [keys, place]
  congr 2 <;> ext <;> simp <;> omega

/-- The values, by window, key row and place. -/
theorem values_apply (x : FVec Ideal S4x8x10x10x32x128 .bf16) (b : Fin 4) (h : Fin 8) (r : Fin 10) (u : Fin 20) (i : Fin 7) (j : Fin 8) (d : Fin 32) :
    values x (ix5 b h r (place u i j) d) = x (ix6 b h r ⟨u.val / 2, by omega⟩ d ⟨16 * i.val + 8 * (u.val % 2) + j.val, by omega⟩) := by
  pointwise [values, place]
  congr 2; ext; simp; omega

/-- The bias is the same for every window. -/
theorem biases_apply (x : FVec Ideal S8x8x7x8x128 .f32) (h t : Fin 8) (l : Fin 128) (u : Fin 20) (i : Fin 7) (j : Fin 8) :
    biases x (ix6 0 h 0 t l (place u i j)) = x (ix5 h t i j l) := by
  pointwise [biases, place]

/-- The products, entry by entry. -/
theorem dots_apply (k : FVec Ideal S4x8x10x1120x32 .f32) (q : FVec Ideal S4x8x10x8x32x128 .bf16) (b : Fin 4) (h : Fin 8) (r : Fin 10) (t : Fin 8)
    (l : Fin 128) (n : Fin 1120) : dots k q (ix6 b h r t l n) = ∑ d, q (ix6 b h r t d l) * k (ix5 b h r n d) := by
  pointwise [dots]

/-- The column scales, entry by entry. -/
theorem scales_apply (qs ks : FVec Ideal S4x8x10x8x128 .f32) (b : Fin 4) (h : Fin 8) (r : Fin 10) (t : Fin 8) (l : Fin 128) :
    scales qs ks (ix5 b h r t l) = Ideal.div (qs (ix5 b h r t l) * ks (ix5 b h r t l)) (Real.sqrt 32 : ℝ) := by
  pointwise [scales]
  rw [Soft.sqrt_32]

/-- A query's number is the same at every key. -/
theorem along_apply (x : FVec Ideal S4x8x10x8x128 .f32) (b : Fin 4) (h : Fin 8) (r : Fin 10) (t : Fin 8) (l : Fin 128) (n : Fin 1120) :
    along x (ix6 b h r t l n) = x (ix5 b h r t l) := by
  pointwise [along]

/-- The window of a query's column, as a word. -/
theorem window_apply (r : Fin 10) (t : Fin 8) (l : Fin 128) (u : Fin 20) (i : Fin 7) (j : Fin 8) :
    window (ix6 r t l u i j) = BitVec.ofNat 32 (Spec.win t l).val := by
  pointwise [window, word]
  revert t l
  decide +kernel

/-- The mask's word: a key of the query's window, at one of its seven places, with a column. -/
theorem mask_word : ∀ (w u : Fin 20) (j : Fin 8),
    (IntOp.cmpi .eq (BitVec.ofNat 32 w.val) (BitVec.ofNat 32 u.val) &&& IntOp.cmpi .slt (BitVec.ofNat 32 j.val) 7#32 &&&
      IntOp.cmpi .sge (7#32 * BitVec.ofNat 32 u.val - 4#32 + BitVec.ofNat 32 j.val) 0#32 &&&
      IntOp.cmpi .slt (7#32 * BitVec.ofNat 32 u.val - 4#32 + BitVec.ofNat 32 j.val) 128#32) =
    if u = w ∧ j.val < 7 ∧ 4 ≤ 7 * w.val + j.val ∧ 7 * w.val + j.val < 132 then 1#1 else 0#1 := by
  decide +kernel

/-- The mask's word of the key rows. -/
theorem rows_word : ∀ (r : Fin 10) (i : Fin 7),
    IntOp.cmpi .slt (BitVec.ofNat 32 i.val) (Scalar.select (IntOp.cmpi .eq (BitVec.ofNat 32 r.val) 9#32) 3#32
      (Scalar.select (IntOp.cmpi .eq (BitVec.ofNat 32 r.val) 8#32) 5#32 7#32)) = if i.val < Spec.rows r then 1#1 else 0#1 := by
  decide +kernel

/-- The two masks together. -/
theorem mask_and (a b c d e : BitVec 1) (p q : Prop) [Decidable p] [Decidable q] (hp : (a &&& c &&& d &&& e) = if p then 1#1 else 0#1)
    (hq : b = if q then 1#1 else 0#1) : (a &&& b &&& c &&& d &&& e) = if p ∧ q then 1#1 else 0#1 := by
  have h : (a &&& b &&& c &&& d &&& e) = (a &&& c &&& d &&& e) &&& b := by ac_rfl
  rw [h, hp, hq]
  by_cases hp' : p <;> by_cases hq' : q <;> simp [hp', hq']

/-- The mask: a query attends the keys of its own window. -/
theorem attends_apply (r : Fin 10) (t : Fin 8) (l : Fin 128) (u : Fin 20) (i : Fin 7) (j : Fin 8) :
    attends (ix6 r t l u i j) = if (u = Spec.win t l ∧ Spec.ok t l j) ∧ i.val < Spec.rows r then 1#1 else 0#1 := by
  have h := mask_word (Spec.win t l) u j
  rw [← window_apply r t l u i j] at h
  refine Eq.trans ?_ (mask_and _ _ _ _ _ _ _ h (rows_word r i))
  pointwise [attends, keyCol, word, rows]
  rfl

/-- The scores, by window, key row and place. -/
theorem scores_apply (s : FVec Ideal S4x8x10x8x128x1120 .f32) (c : FVec Ideal S4x8x10x8x128 .f32) (w : FVec Ideal S1x8x1x8x128x1120 .f32)
    (b : Fin 4) (h : Fin 8) (r : Fin 10) (t : Fin 8) (l : Fin 128) (u : Fin 20) (i : Fin 7) (j : Fin 8) :
    scores s c w (ix6 b h r t l (place u i j)) = if (u = Spec.win t l ∧ Spec.ok t l j) ∧ i.val < Spec.rows r then
      s (ix6 b h r t l (place u i j)) * c (ix5 b h r t l) + w (ix6 0 h 0 t l (place u i j)) else ⊥ := by
  have e : scores s c w (ix6 b h r t l (place u i j)) = Scalar.select (attends (ix6 r t l u i j))
      (s (ix6 b h r t l (place u i j)) * c (ix5 b h r t l) + w (ix6 0 h 0 t l (place u i j))) (Ideal.ofBits .f32 0xFF800000#32) := by
    rw [← along_apply c b h r t l (place u i j)]
    pointwise [scores, place]
    rfl
  rw [e, attends_apply, Consts.ofBits_bot]
  split <;> simp [Scalar.select]

/-- The entries that fall on one place when the last axis is taken away are those of that place's row. -/
theorem drop_iff (b : Fin 4) (h : Fin 8) (r : Fin 10) (t : Fin 8) (l : Fin 128) (i : S4x8x10x8x128x1120.Idx) :
    reducesTo_S4x8x10x8x128x1120_S4x8x10x8x128_d5.drop i = ix5 b h r t l ↔ ∃ n : Fin 1120, ix6 b h r t l n = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨n, rfl⟩
    funext a; apply Fin.ext
    match a with
    | ⟨0, _⟩ => rfl
    | ⟨1, _⟩ => rfl
    | ⟨2, _⟩ => rfl
    | ⟨3, _⟩ => rfl
    | ⟨4, _⟩ => rfl

/-- A sum over the entries that fall on one place is the sum along that place's row. -/
theorem sum_drop (v : S4x8x10x8x128x1120.Idx → EReal) (b : Fin 4) (h : Fin 8) (r : Fin 10) (t : Fin 8) (l : Fin 128) :
    ∑ i ∈ Finset.univ.filter (fun i => reducesTo_S4x8x10x8x128x1120_S4x8x10x8x128_d5.drop i = ix5 b h r t l), v i
      = ∑ n : Fin 1120, v (ix6 b h r t l n) :=
  Finset.sum_filter_eq_sum_of_fiber _ (fun n : Fin 1120 => ix6 b h r t l n) (fun _ _ e => congrFun e 5) (drop_iff b h r t l) v

/-- A maximum over the entries that fall on one place is the maximum along that place's row. -/
theorem max_drop (v : S4x8x10x8x128x1120.Idx → EReal) (b : Fin 4) (h : Fin 8) (r : Fin 10) (t : Fin 8) (l : Fin 128) (z : EReal) :
    (Finset.univ.filter (fun i => reducesTo_S4x8x10x8x128x1120_S4x8x10x8x128_d5.drop i = ix5 b h r t l)).fold max z v
      = (Finset.univ : Finset (Fin 1120)).fold max z (fun n => v (ix6 b h r t l n)) :=
  Finset.fold_filter_eq_fold_of_fiber max _ (fun n : Fin 1120 => ix6 b h r t l n) (fun _ _ e => congrFun e 5)
    (drop_iff b h r t l) z v

/-- The exponentials, entry by entry. -/
theorem exps_apply (s : FVec Ideal S4x8x10x8x128x1120 .f32) (b : Fin 4) (h : Fin 8) (r : Fin 10) (t : Fin 8) (l : Fin 128) (n : Fin 1120) :
    exps s (ix6 b h r t l n) = Ideal.exp (s (ix6 b h r t l n) - Finset.univ.sup fun n => s (ix6 b h r t l n)) := by
  pointwise [exps, along]
  rw [Consts.ofBits_bot]
  erw [max_drop]
  rfl

/-- The softmax weights, entry by entry. -/
theorem weights_apply (e : FVec Ideal S4x8x10x8x128x1120 .f32) (b : Fin 4) (h : Fin 8) (r : Fin 10) (t : Fin 8) (l : Fin 128) (n : Fin 1120) :
    weights e (ix6 b h r t l n) = e (ix6 b h r t l n) * Ideal.div 1 (∑ n, e (ix6 b h r t l n)) := by
  pointwise [weights]
  unfold Ideal.hostReduceAdd
  erw [sum_drop, zero_add]

/-- The result, entry by entry. -/
theorem result_apply (v : FVec Ideal S4x8x10x1120x32 .f32) (a : FVec Ideal S4x8x10x8x128x1120 .f32) (b : Fin 4) (h : Fin 8) (r : Fin 10) (t : Fin 8)
    (d : Fin 32) (l : Fin 128) :
    result v a (ix6 b h r t d l) = ∑ n, v (ix5 b h r n d) * a (ix6 b h r t l n) := by
  pointwise [result]

/-- Where only the keys of one window have scores, the greatest score is that window's. -/
theorem sup_places (s : Fin 1120 → EReal) (w : Fin 20) (y : Fin 7 → Fin 8 → EReal)
    (hs : ∀ u i j, s (place u i j) = if u = w then y i j else ⊥) : Finset.univ.sup s = Soft.peak y := by
  unfold Soft.peak
  apply le_antisymm
  · refine Finset.sup_le fun n _ => ?_
    obtain ⟨u, i, j, rfl⟩ := exists_place n
    rw [hs]
    split
    · exact Finset.le_sup (f := fun p : Fin 7 × Fin 8 => y p.1 p.2) (Finset.mem_univ (i, j))
    · exact bot_le
  · refine Finset.sup_le fun p _ => ?_
    have h := Finset.le_sup (f := s) (Finset.mem_univ (place w p.1 p.2))
    rwa [hs, if_pos rfl] at h

/-- Where only the keys of one window have scores, a weighted sum runs over that window's keys. -/
theorem sum_window (s v : Fin 1120 → EReal) (w : Fin 20) (y : Fin 7 → Fin 8 → EReal)
    (hs : ∀ u i j, s (place u i j) = if u = w then y i j else ⊥) (M : EReal) :
    ∑ n, v n * Ideal.exp (s n - M) = ∑ i, ∑ j, Ideal.exp (y i j - M) * v (place w i j) := by
  rw [sum_places, Finset.sum_eq_single w]
  · refine Finset.sum_congr rfl fun i _ => Finset.sum_congr rfl fun j _ => ?_
    rw [hs, if_pos rfl, mul_comm]
  · intro u _ hu
    refine Finset.sum_eq_zero fun i _ => Finset.sum_eq_zero fun j _ => ?_
    rw [hs, if_neg hu, EReal.bot_sub, Soft.exp_bot, mul_zero]
  · exact fun h => (h (Finset.mem_univ _)).elim

/-- The reference's result: every head's attention along every window row. -/
theorem stages_apply (x0 : FVec Ideal S4x8x10x5x64x128 .bf16) (x1 : FVec Ideal S4x8x10x8x32x128 .bf16) (x2 : FVec Ideal S4x8x10x10x32x128 .bf16)
    (x3 : FVec Ideal S8x8x7x8x128 .f32) (x4 x5 : FVec Ideal S4x8x10x8x128 .f32)
    (b : Fin 4) (h : Fin 8) (r : Fin 10) (t : Fin 8) (d : Fin 32) (l : Fin 128) :
    result (values x2) (weights (exps (scores (dots (keys x0) x1) (scales x4 x5) (biases x3)))) (ix6 b h r t d l) =
      Spec.out (Spec.rows r) (fun a k l => x0 (ix6 b h r a k l)) (fun t d l => x1 (ix6 b h r t d l)) (fun n d k => x2 (ix6 b h r n d k))
        (fun t i j l => x3 (ix5 h t i j l)) (fun t l => x4 (ix5 b h r t l)) (fun t l => x5 (ix5 b h r t l)) t d l := by
  have hs (u i j) : scores (dots (keys x0) x1) (scales x4 x5) (biases x3) (ix6 b h r t l (place u i j)) =
      if u = Spec.win t l then Spec.score (Spec.rows r) (fun a k l => x0 (ix6 b h r a k l)) (fun t d l => x1 (ix6 b h r t d l))
        (fun t i j l => x3 (ix5 h t i j l)) (fun t l => x4 (ix5 b h r t l)) (fun t l => x5 (ix5 b h r t l)) t l i j else ⊥ := by
    rw [scores_apply, dots_apply, scales_apply, biases_apply]
    simp only [keys_apply]
    by_cases hu : u = Spec.win t l
    · subst hu
      simp only [true_and, if_true, Spec.score, Spec.dot]
      congr 4
      funext d
      exact mul_comm _ _
    · simp [hu]
  rw [result_apply]
  simp only [weights_apply, exps_apply]
  rw [Soft.scaled _ _ fun n => Soft.exp_nonneg _, sup_places _ _ _ hs, sum_window _ (fun n => values x2 (ix5 b h r n d)) _ _ hs]
  have h1 := sum_window (fun n => scores (dots (keys x0) x1) (scales x4 x5) (biases x3) (ix6 b h r t l n)) (fun _ => 1) _ _ hs
  simp only [one_mul, mul_one] at h1
  rw [h1]
  simp only [values_apply]
  rfl

end Cert.ReferenceIdeal.Stages

end
-- ==== Proof.Claims.lean ====
/- The claims: the frames, the named constants, and the equality of the kernel's result and the reference's on the extended
   reals. -/
module

public import proofs.«01_k».proof.Defs
public import proofs.«01_k».proof.Proof.KernelValue
public import proofs.«01_k».proof.Proof.RefValue
public import proofs.«01_k».proof.Proof.Gen.Kernel.Frame
public import Idealize.ShloMosaic.Lib.Quiescent

@[expose] public section

set_option maxRecDepth 16384

noncomputable section

namespace Cert.Claims

open Idealize.ShloMosaic Idealize.ShloMosaic.TcCoe Idealize.SL.Sem

/-- The kernel runs to its end, its arguments unchanged. -/
theorem frame_p : quiescent_Kernel (hKernel := Cert.Kernel.Gen.facts) := fun m ρ _ => Cert.Kernel.Gen.frame m ρ

/-- The idealized kernel runs to its end, its arguments unchanged. -/
theorem frame_pi : quiescent_KernelIdeal (hKernelIdeal := Cert.KernelIdeal.Gen.facts) := fun m ρ _ => Cert.KernelIdeal.Gen.frame m ρ

/-- The idealized reference runs to its end, its arguments unchanged. -/
theorem frame_ri : quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The three named constants stand for what the kernel's patterns round. -/
theorem preserves : preserves_Kernel_KernelIdeal :=
  ⟨IdealRules.named_const.statement Cert.KernelIdeal.κ "mask" .f32 0xF149F2CA#32 _ rfl,
    IdealRules.named_const.statement Cert.KernelIdeal.κ "scale_log2e" .f32 0x3E8293EE#32 _ rfl,
    IdealRules.named_const.statement Cert.KernelIdeal.κ "log2e" .f32 0x3FB8AA3B#32 _ rfl⟩

/-- On the extended reals the kernel's result is the reference's. -/
theorem algebraic : algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Body.outArray m c, ?_, ?_⟩
  · exact (θ_run Cert.KernelIdeal.defs _ _).mono (fun _ h c => ⟨(h c).1.trans (Cert.KernelIdeal.Body.arr_eq m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    refine (Cert.ReferenceIdeal.Stages.res_eq m' c).trans ?_
    rw [h0, h1, h2, h3, h4, h5]
    funext i
    have hi : ∃ b h r t d l, i = (ix6 b h r t d l : Cert.ReferenceIdeal.S4x8x10x8x32x128.Idx) := ⟨i 0, i 1, i 2, i 3, i 4, i 5, by blk_ext⟩
    obtain ⟨b, h, r, t, d, l, rfl⟩ := hi
    exact Cert.ReferenceIdeal.Stages.stages_apply _ _ _ _ _ _ b h r t d l

end Cert.Claims

end
-- ==== Proof.lean ====
module

public import proofs.«01_k».proof.Defs
public import proofs.«01_k».proof.Proof.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Claims.frame_p, Claims.frame_pi, Claims.frame_ri, Claims.preserves, Claims.algebraic⟩

end Cert.Proof

end
